-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1)
      ∧ r.2.mem ((c.tc : Thread Cert.SiluIdeal.nD Cert.SiluIdeal.τ).loc Cert.SiluIdeal.main_arg2) = m ((c.tc : Thread Cert.SiluIdeal.nD Cert.SiluIdeal.τ).loc Cert.SiluIdeal.main_arg2)
      ∧ r.2.mem ((c.tc : Thread Cert.SiluIdeal.nD Cert.SiluIdeal.τ).loc Cert.SiluIdeal.main_arg3) = m ((c.tc : Thread Cert.SiluIdeal.nD Cert.SiluIdeal.τ).loc Cert.SiluIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.SiluIdeal.nD).tc : Thread Cert.SiluIdeal.nD Cert.SiluIdeal.τ).loc Cert.SiluIdeal.main_arg1))
      ∧ m ((c.tc : Thread Cert.KernelIdeal.nD Cert.KernelIdeal.τ).loc Cert.KernelIdeal.main_arg2) = m' (((0 : Dev Cert.SiluIdeal.nD).tc : Thread Cert.SiluIdeal.nD Cert.SiluIdeal.τ).loc Cert.SiluIdeal.main_arg2)
      ∧ m ((c.tc : Thread Cert.KernelIdeal.nD Cert.KernelIdeal.τ).loc Cert.KernelIdeal.main_arg3) = m' (((0 : Dev Cert.SiluIdeal.nD).tc : Thread Cert.SiluIdeal.nD Cert.SiluIdeal.τ).loc Cert.SiluIdeal.main_arg3)) →
    ∃ (v0 : Buf (Elt Ideal) (((0 : Dev Cert.SiluIdeal.nD).tc : Thread Cert.SiluIdeal.nD Cert.SiluIdeal.τ).loc Cert.SiluIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v0) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1)
          ∧ r.2.mem (((0 : Dev Cert.SiluIdeal.nD).tc : Thread Cert.SiluIdeal.nD Cert.SiluIdeal.τ).loc Cert.SiluIdeal.main_arg2) = m' (((0 : Dev Cert.SiluIdeal.nD).tc : Thread Cert.SiluIdeal.nD Cert.SiluIdeal.τ).loc Cert.SiluIdeal.main_arg2)
          ∧ r.2.mem (((0 : Dev Cert.SiluIdeal.nD).tc : Thread Cert.SiluIdeal.nD Cert.SiluIdeal.τ).loc Cert.SiluIdeal.main_arg3) = m' (((0 : Dev Cert.SiluIdeal.nD).tc : Thread Cert.SiluIdeal.nD Cert.SiluIdeal.τ).loc Cert.SiluIdeal.main_arg3))

def Claim : Prop :=
  ∃ (hKernel : Cert.Kernel.Facts) (hKernelIdeal : Cert.KernelIdeal.Facts) (hSiluIdeal : Cert.SiluIdeal.Facts) (hReferenceIdeal : Cert.ReferenceIdeal.Facts),
    quiescent_Kernel (hKernel := hKernel)
    ∧ quiescent_KernelIdeal (hKernelIdeal := hKernelIdeal)
    ∧ quiescent_SiluIdeal (hSiluIdeal := hSiluIdeal)
    ∧ quiescent_ReferenceIdeal (hReferenceIdeal := hReferenceIdeal)
    ∧ preserves_Kernel_KernelIdeal
    ∧ algebraic_KernelIdeal_SiluIdeal (hKernelIdeal := hKernelIdeal) (hSiluIdeal := hSiluIdeal)
-- ==== Kernel.lean ====
abbrev S1024x4096 : Shape := ⟨2, ![1024, 4096]⟩
abbrev S4096x512 : Shape := ⟨2, ![4096, 512]⟩
abbrev S1 : Shape := ⟨1, ![1]⟩
abbrev S8x512x4096 : Shape := ⟨3, ![8, 512, 4096]⟩
abbrev S8 : Shape := ⟨1, ![8]⟩
abbrev S512x4096 : Shape := ⟨2, ![512, 4096]⟩
abbrev S1x512x4096 : Shape := ⟨3, ![1, 512, 4096]⟩
abbrev S_ : Shape := ⟨0, ![]⟩
abbrev S512x512 : Shape := ⟨2, ![512, 512]⟩
abbrev S1x256x4096 : Shape := ⟨3, ![1, 256, 4096]⟩
abbrev S256x4096 : Shape := ⟨2, ![256, 4096]⟩
abbrev S256x512 : Shape := ⟨2, ![256, 512]⟩

abbrev nBuf : Space → Nat
  | .hbm => 5
  | .vmem => 5
  | .smem => 2
  | _ => 0

abbrev bufTy : (tb : Table) → Fin (tcTables nBuf tb) → BufTy
  | .hbm, ⟨0, _⟩ => ⟨S1024x4096, .fp8e4m3⟩
  | .hbm, ⟨1, _⟩ => ⟨S4096x512, .fp8e5m2⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S1024x4096, .fp8e4m3⟩
  | .local _ .vmem, ⟨1, _⟩ => ⟨S4096x512, .fp8e5m2⟩
  | .local _ .vmem, ⟨2, _⟩ => ⟨S4096x512, .f32⟩
  | .local _ .vmem, ⟨3, _⟩ => ⟨S8x512x4096, .fp8e4m3⟩
  | .local _ .vmem, ⟨4, _⟩ => ⟨S4096x512, .fp8e5m2⟩
  | .local _ .smem, ⟨0, _⟩ => ⟨S1, .f32⟩
  | .local _ .smem, ⟨1, _⟩ => ⟨S1, .f32⟩
  | _, _ => ⟨S1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27 : BitVec 32 := 1#32
  let v47 : BitVec 32 := Scalar.muli v13 c1_i32_27
  let v48 : BitVec 32 := Scalar.addi c0_i32_28 v47
  v48.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30 : BitVec 32 := 1#32
  let v49 : BitVec 32 := Scalar.muli v24 c1_i32_30
  let v50 : BitVec 32 := Scalar.addi c0_i32_31 v49
  v50.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v54 : BitVec 32 := Scalar.muli v24 c1_i32_39
  let v55 : BitVec 32 := Scalar.addi c0_i32_40 v54
  v55.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_47 : BitVec 32 := 1#32
  let v64 : BitVec 32 := Scalar.muli v13 c1_i32_47
  let v65 : BitVec 32 := Scalar.addi c0_i32_48 v64
  v65.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_57 : BitVec 32 := 1#32
  let v74 : BitVec 32 := Scalar.muli v24 c1_i32_57
  let v75 : BitVec 32 := Scalar.addi c0_i32_58 v74
  v75.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_67 : BitVec 32 := 1#32
  let v84 : BitVec 32 := Scalar.muli v13 c1_i32_67
  let v85 : BitVec 32 := Scalar.addi c0_i32_68 v84
  v85.toNat
def k0_off1 (d0 : Dev nD) (c0_i32_82 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v105 : BitVec 32 := Scalar.muli v2 c1024_i32
  let v106 : BitVec 32 := Scalar.addi v105 c0_i32_82
  let c0_i32_83 : BitVec 32 := 0#32
  let v107 : BitVec 32 := Scalar.addi v106 c0_i32_83
  let v114 : Index := Scalar.indexCast v107
  let c0_86 : Index := 0#32
  ![v114.toNat, 0]
def k0_dev7 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_111 : BitVec 32 := 1#32
  let v141 : BitVec 32 := Scalar.muli v24 c1_i32_111
  let v142 : BitVec 32 := Scalar.addi c0_i32_112 v141
  v142.toNat
def k0_dev8 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_121 : BitVec 32 := 1#32
  let v151 : BitVec 32 := Scalar.muli v24 c1_i32_121
  let v152 : BitVec 32 := Scalar.addi c0_i32_122 v151
  v152.toNat
def k0_dev9 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_139 : BitVec 32 := 1#32
  let v169 : BitVec 32 := Scalar.muli v13 c1_i32_139
  let v170 : BitVec 32 := Scalar.addi c0_i32_140 v169
  v170.toNat
def k0_dev10 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_149 : BitVec 32 := 1#32
  let v179 : BitVec 32 := Scalar.muli v13 c1_i32_149
  let v180 : BitVec 32 := Scalar.addi c0_i32_150 v179
  v180.toNat
def k0_off2 (d0 : Dev nD) (c0_i32_161 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_160 : BitVec 32 := 1024#32
  let v195 : BitVec 32 := Scalar.muli v13 c1024_i32_160
  let v196 : BitVec 32 := Scalar.addi v195 c0_i32_161
  let c0_i32_162 : BitVec 32 := 0#32
  let v197 : BitVec 32 := Scalar.addi v196 c0_i32_162
  let v204 : Index := Scalar.indexCast v197
  let c0_165 : Index := 0#32
  ![v204.toNat, 0]
def k0_off3 (d0 : Dev nD) (c512_i32_172 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_171 : BitVec 32 := 1024#32
  let v212 : BitVec 32 := Scalar.muli v24 c1024_i32_171
  let v213 : BitVec 32 := Scalar.addi v212 c512_i32_172
  let c0_i32_173 : BitVec 32 := 0#32
  let v214 : BitVec 32 := Scalar.addi v213 c0_i32_173
  let v221 : Index := Scalar.indexCast v214
  let c0_176 : Index := 0#32
  ![v221.toNat, 0]
def k0_off4 (d0 : Dev nD) (c0_i32_245 : BitVec 32) (c0_i32_246 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1024_i32_244 : BitVec 32 := 1024#32
  let v295 : BitVec 32 := Scalar.muli v35 c1024_i32_244
  let v296 : BitVec 32 := Scalar.addi v295 c0_i32_245
  let v297 : BitVec 32 := Scalar.addi v296 c0_i32_246
  let v304 : Index := Scalar.indexCast v297
  let c0_249 : Index := 0#32
  ![v304.toNat, 0]
abbrev stage0_0 : Fin 1 → Memref sig .tc .vmem S1024x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== SiluIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Contents.lean ====
/-
The ring of four devices, the kernel's buffers and semaphores, and what each device's gathering buffer holds.

Each device keeps eight slots of 512 rows of `x`: slots 0 and 1 are its own block's two halves, 2 and 3 the left
neighbour's, 4 and 5 the right neighbour's, 6 and 7 the diagonal device's (relayed by the two neighbours in quarter
blocks of 256 rows). `gath` is that content, as ONE function of the slot, row and column, so a slot or half slot is
everywhere "the elements of `gath` it covers".
-/
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Value
public import Idealize.ShloMosaic.Lib.ValueIdxCore

@[expose] public section

noncomputable section

namespace Cert.RingProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds library's algebra with duties named by a Boolean, beside the pipeline library's own. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- The device ids the kernel computes: left then right for the two signals, the copies' targets by direction. -/
theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = prv c := by revert c; decide
theorem dev5_eq (c : Dev nD) : (⟨k0_dev5 c, k0_dev5_lt c⟩ : Dev nD) = nxt c := by revert c; decide
theorem dev6_eq (c : Dev nD) : (⟨k0_dev6 c, k0_dev6_lt c⟩ : Dev nD) = prv c := by revert c; decide
theorem dev7_eq (c : Dev nD) : (⟨k0_dev7 c, k0_dev7_lt c⟩ : Dev nD) = nxt c := by revert c; decide
theorem dev8_eq (c : Dev nD) : (⟨k0_dev8 c, k0_dev8_lt c⟩ : Dev nD) = nxt c := by revert c; decide
theorem dev9_eq (c : Dev nD) : (⟨k0_dev9 c, k0_dev9_lt c⟩ : Dev nD) = prv c := by revert c; decide
theorem dev10_eq (c : Dev nD) : (⟨k0_dev10 c, k0_dev10_lt c⟩ : Dev nD) = prv c := by revert c; decide

/-- Whose block slot `j` of device `c` holds. -/
def org (c : Dev nD) (j : ℕ) : Dev nD :=
  if j < 2 then c else if j < 4 then prv c else if j < 6 then nxt c else nxt (nxt c)

/-! ## The buffers -/

abbrev xM : Memref sig .tc .vmem S1024x4096 .fp8e4m3 := Memref.whole cc0_stg0_0
abbrev wM : Memref sig .tc .vmem S4096x512 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S4096x512 .f32 := Memref.whole cc0_stg4_0
abbrev bufM : Memref sig .tc .vmem S8x512x4096 .fp8e4m3 := Memref.whole cc0_scratch0
abbrev wbM : Memref sig .tc .vmem S4096x512 .fp8e5m2 := Memref.whole cc0_scratch1

theorem slot_inb (j : ℕ) (hj : j < 8) : ∀ a, (![j, 0, 0] : Fin 3 → ℕ) a + S1x512x4096.size a ≤ S8x512x4096.size a
  | ⟨0, _⟩ => by show j + 1 ≤ 8; omega
  | ⟨1, _⟩ => by show 0 + 512 ≤ 512; omega
  | ⟨2, _⟩ => by show 0 + 4096 ≤ 4096; omega
theorem half_inb (j lo : ℕ) (hj : j < 8) (hlo : lo ≤ 256) : ∀ a, (![j, lo, 0] : Fin 3 → ℕ) a + S1x256x4096.size a ≤ S8x512x4096.size a
  | ⟨0, _⟩ => by show j + 1 ≤ 8; omega
  | ⟨1, _⟩ => by show lo + 256 ≤ 512; omega
  | ⟨2, _⟩ => by show 0 + 4096 ≤ 4096; omega

/-- Slot `j` and the 256 rows of slot `j` from row `lo`, as rectangles of the gathering buffer … -/
abbrev slotR (j : ℕ) (hj : j < 8 := by decide) : Rect S8x512x4096 := Rect.unit (s := S8x512x4096) ![j, 0, 0] S1x512x4096.size (slot_inb j hj)
abbrev halfR (j lo : ℕ) (hj : j < 8 := by decide) (hlo : lo ≤ 256 := by decide) : Rect S8x512x4096 :=
  Rect.unit (s := S8x512x4096) ![j, lo, 0] S1x256x4096.size (half_inb j lo hj hlo)

/-- … and as the memrefs the copies name. -/
abbrev slotM (j : ℕ) (hj : j < 8 := by decide) : Memref sig .tc .vmem S512x4096 .fp8e4m3 :=
  (bufM.slice (slotR j hj) (fun _ => rfl)).squeeze S512x4096 squeezes_S1x512x4096_S512x4096
abbrev halfM (j lo : ℕ) (hj : j < 8 := by decide) (hlo : lo ≤ 256 := by decide) : Memref sig .tc .vmem S256x4096 .fp8e4m3 :=
  (bufM.slice (halfR j lo hj hlo) (fun _ => rfl)).squeeze S256x4096 squeezes_S1x256x4096_S256x4096

theorem slot_set (j : ℕ) (hj : j < 8) : (slotM j hj).view.set = (slotR j hj).set := by
  show (((View.whole cc0_scratch0).slice (slotR j hj)).reshape S512x4096 _).set = _
  rw [View.set_reshape, View.set_slice_whole]
theorem half_set (j lo : ℕ) (hj : j < 8) (hlo : lo ≤ 256) : (halfM j lo hj hlo).view.set = (halfR j lo hj hlo).set := by
  show (((View.whole cc0_scratch0).slice (halfR j lo hj hlo)).reshape S256x4096 _).set = _
  rw [View.set_reshape, View.set_slice_whole]

theorem mem_slot {j : ℕ} {hj : j < 8} {i : S8x512x4096.Idx} : i ∈ (slotR j hj).set ↔ (i 0).val = j := by
  rw [Rect.mem_set_unit]
  have h1 : (i 1).val < 512 := (i 1).isLt
  have h2 : (i 2).val < 4096 := (i 2).isLt
  constructor
  · intro h; have := h 0
    have h' : j ≤ (i 0).val ∧ (i 0).val < j + 1 := this
    omega
  · intro h a
    match a with
    | ⟨0, _⟩ => show j ≤ (i 0).val ∧ (i 0).val < j + 1; omega
    | ⟨1, _⟩ => show 0 ≤ (i 1).val ∧ (i 1).val < 0 + 512; omega
    | ⟨2, _⟩ => show 0 ≤ (i 2).val ∧ (i 2).val < 0 + 4096; omega
theorem mem_half {j lo : ℕ} {hj : j < 8} {hlo : lo ≤ 256} {i : S8x512x4096.Idx} :
    i ∈ (halfR j lo hj hlo).set ↔ (i 0).val = j ∧ lo ≤ (i 1).val ∧ (i 1).val < lo + 256 := by
  rw [Rect.mem_set_unit]
  have h2 : (i 2).val < 4096 := (i 2).isLt
  constructor
  · intro h
    have h0 : j ≤ (i 0).val ∧ (i 0).val < j + 1 := h 0
    have h1 : lo ≤ (i 1).val ∧ (i 1).val < lo + 256 := h 1
    omega
  · intro h a
    match a with
    | ⟨0, _⟩ => show j ≤ (i 0).val ∧ (i 0).val < j + 1; omega
    | ⟨1, _⟩ => show lo ≤ (i 1).val ∧ (i 1).val < lo + 256; omega
    | ⟨2, _⟩ => show 0 ≤ (i 2).val ∧ (i 2).val < 0 + 4096; omega

/-- Slot `j` (the rows `lo …` of slot `j`) of device `c` held at share `q`, its elements those of `f`. -/
def slotP (c : Dev nD) (j : ℕ) (hj : j < 8) (q : PosShare TreeShare) (f : Buf (Elt F) ((c : Thread nD τ).loc cc0_scratch0)) : sProp 𝕄 :=
  (slotM j hj).view.loc (c : Thread nD τ) ↦[(slotM j hj).view.set]{q} f
def halfP (c : Dev nD) (j lo : ℕ) (hj : j < 8) (hlo : lo ≤ 256) (q : PosShare TreeShare) (f : Buf (Elt F) ((c : Thread nD τ).loc cc0_scratch0)) : sProp 𝕄 :=
  (halfM j lo hj hlo).view.loc (c : Thread nD τ) ↦[(halfM j lo hj hlo).view.set]{q} f

omit [FloatOps F] in
instance slotP_storable (c : Dev nD) (j hj q f) : BI.Storable (upEmb : UEmb _ 𝕄) (slotP (F := F) c j hj q f) := by unfold slotP; infer_instance
omit [FloatOps F] in
instance halfP_storable (c : Dev nD) (j lo hj hlo q f) : BI.Storable (upEmb : UEmb _ 𝕄) (halfP (F := F) c j lo hj hlo q f) := by
  unfold halfP; infer_instance

omit [FloatOps F] in
/-- The gathering buffer held whole is its eight slots; -/
theorem buf_slots (c : Dev nD) (f : Buf (Elt F) ((c : Thread nD τ).loc cc0_scratch0)) :
    (((c : Thread nD τ).loc cc0_scratch0) ↦{fullShare} f : sProp 𝕄)
      = bigSep Finset.univ fun j : Fin 8 => slotP c j.val j.isLt fullShare f := by
  have hd : ∀ j j' : Fin 8, j ≠ j' → Disjoint (slotR j.val j.isLt).set (slotR j'.val j'.isLt).set := fun j j' h =>
    Finset.disjoint_left.mpr fun i hi hi' => h (Fin.ext ((mem_slot.mp hi).symm.trans (mem_slot.mp hi')))
  have hc : (Finset.univ.biUnion fun j : Fin 8 => (slotR j.val j.isLt).set) = Finset.univ :=
    Finset.eq_univ_iff_forall.mpr fun i => Finset.mem_biUnion.mpr ⟨⟨(i 0).val, (i 0).isLt⟩, Finset.mem_univ _, mem_slot.mpr rfl⟩
  have h := Ring.pointsTo_blocks (Ix := Unit) (Name := ℕ) (U := UU) (Lvl := ℕ) (ℓ := (c : Thread nD τ).loc cc0_scratch0)
    (fun j : Fin 8 => (slotR j.val j.isLt).set) hd hc (q := fullShare) f
  refine h.trans (bigSep_congr fun j _ => ?_)
  unfold slotP; rw [slot_set]

omit [FloatOps F] in
/-- a slot is its two halves, at any share; -/
theorem slot_halves (c : Dev nD) (j : ℕ) (hj : j < 8) (q : PosShare TreeShare) (f : Buf (Elt F) ((c : Thread nD τ).loc cc0_scratch0)) :
    (slotP c j hj q f : sProp 𝕄) ⊣⊢ iprop(halfP c j 0 hj (by decide) q f ∗ halfP c j 256 hj (by decide) q f) := by
  unfold slotP halfP
  rw [slot_set, half_set, half_set]
  have hu : (slotR j hj).set = (halfR j 0 hj (by decide)).set ∪ (halfR j 256 hj (by decide)).set := by
    ext i
    have h1 : (i 1).val < 512 := (i 1).isLt
    rw [Finset.mem_union, mem_slot, mem_half, mem_half]; omega
  have hd : Disjoint (halfR j 0 hj (by decide)).set (halfR j 256 hj (by decide)).set := by
    refine Finset.disjoint_left.mpr fun i hi hi' => ?_
    have := mem_half.mp hi; have := mem_half.mp hi'; omega
  rw [hu]
  exact pointsTo_union hd

omit [FloatOps F] in
/-- a slot's whole share is its left and right shares, and so is any share of a slot or a half slot. -/
theorem slot_share (c : Dev nD) (j : ℕ) (hj : j < 8) (q : PosShare TreeShare) (f : Buf (Elt F) ((c : Thread nD τ).loc cc0_scratch0)) :
    (slotP c j hj q f : sProp 𝕄) ⊣⊢ iprop(slotP c j hj q.left f ∗ slotP c j hj q.right f) := by
  unfold slotP; exact pointsTo_share (PosShare.mem_left_op_right q)

/-! ## The semaphores and their cells -/

/-- The barrier semaphore, shared with the two neighbours. -/
abbrev barS : Sem sig := (SemArray.scalar (sig.barrier 0 rfl) : Sems sig S_).sem
/-- Send semaphore `t` and receive semaphore `k`. -/
abbrev sndS (t : Fin 8) : DmaSem sig := ⟨5 + t.val, by have := t.isLt; show 5 + t.val < 21; omega⟩
abbrev rcvS (k : Fin 8) : DmaSem sig := ⟨13 + k.val, by have := k.isLt; show 13 + k.val < 21; omega⟩

abbrev barCell (c : Dev nD) : GSem nD τ sig := ((c : Thread nD τ), .reg barS)
abbrev sndCell (c : Dev nD) (t : Fin 8) : GSem nD τ sig := ((c : Thread nD τ), .dma (sndS t))
abbrev rcvCell (c : Dev nD) (k : Fin 8) : GSem nD τ sig := ((c : Thread nD τ), .dma (rcvS k))

/-- The kernel reaches them by slicing its two semaphore arrays. -/
theorem snd0 : ((cc0_scratch2.slice (Rect.unit (s := S8) ![0] S1.size inb_S8_S1_0)).squeeze S_ squeezes_S1_S_).sem = sndS 0 := rfl
theorem snd1 : ((cc0_scratch2.slice (Rect.unit (s := S8) ![1] S1.size inb_S8_S1_1)).squeeze S_ squeezes_S1_S_).sem = sndS 1 := rfl
theorem snd2 : ((cc0_scratch2.slice (Rect.unit (s := S8) ![2] S1.size inb_S8_S1_2)).squeeze S_ squeezes_S1_S_).sem = sndS 2 := rfl
theorem snd3 : ((cc0_scratch2.slice (Rect.unit (s := S8) ![3] S1.size inb_S8_S1_3)).squeeze S_ squeezes_S1_S_).sem = sndS 3 := rfl
theorem snd4 : ((cc0_scratch2.slice (Rect.unit (s := S8) ![4] S1.size inb_S8_S1_4)).squeeze S_ squeezes_S1_S_).sem = sndS 4 := rfl
theorem snd5 : ((cc0_scratch2.slice (Rect.unit (s := S8) ![5] S1.size inb_S8_S1_5)).squeeze S_ squeezes_S1_S_).sem = sndS 5 := rfl
theorem snd6 : ((cc0_scratch2.slice (Rect.unit (s := S8) ![6] S1.size inb_S8_S1_6)).squeeze S_ squeezes_S1_S_).sem = sndS 6 := rfl
theorem snd7 : ((cc0_scratch2.slice (Rect.unit (s := S8) ![7] S1.size inb_S8_S1_7)).squeeze S_ squeezes_S1_S_).sem = sndS 7 := rfl
theorem rcv0 : ((cc0_scratch3.slice (Rect.unit (s := S8) ![0] S1.size inb_S8_S1_0)).squeeze S_ squeezes_S1_S_).sem = rcvS 0 := rfl
theorem rcv1 : ((cc0_scratch3.slice (Rect.unit (s := S8) ![1] S1.size inb_S8_S1_1)).squeeze S_ squeezes_S1_S_).sem = rcvS 1 := rfl
theorem rcv2 : ((cc0_scratch3.slice (Rect.unit (s := S8) ![2] S1.size inb_S8_S1_2)).squeeze S_ squeezes_S1_S_).sem = rcvS 2 := rfl
theorem rcv3 : ((cc0_scratch3.slice (Rect.unit (s := S8) ![3] S1.size inb_S8_S1_3)).squeeze S_ squeezes_S1_S_).sem = rcvS 3 := rfl
theorem rcv4 : ((cc0_scratch3.slice (Rect.unit (s := S8) ![4] S1.size inb_S8_S1_4)).squeeze S_ squeezes_S1_S_).sem = rcvS 4 := rfl
theorem rcv5 : ((cc0_scratch3.slice (Rect.unit (s := S8) ![5] S1.size inb_S8_S1_5)).squeeze S_ squeezes_S1_S_).sem = rcvS 5 := rfl
theorem rcv6 : ((cc0_scratch3.slice (Rect.unit (s := S8) ![6] S1.size inb_S8_S1_6)).squeeze S_ squeezes_S1_S_).sem = rcvS 6 := rfl
theorem rcv7 : ((cc0_scratch3.slice (Rect.unit (s := S8) ![7] S1.size inb_S8_S1_7)).squeeze S_ squeezes_S1_S_).sem = rcvS 7 := rfl

/-- A slot's copy counts `NF` on its semaphores, a half slot's `NH`. -/
abbrev NF : ℕ := (slotM 0).view.dmaCredit
abbrev NH : ℕ := (halfM 0 0).view.dmaCredit
theorem NF_pos : 0 < NF := View.dmaCredit_pos _ (by decide)
theorem NH_pos : 0 < NH := View.dmaCredit_pos _ (by decide)

/-! ## The contents -/

/-- The one point of the grid. -/
abbrev t₀ : Fin cfg0.N := t0_0

/-- Device `c`'s block of `x`, of `w`, and its two scales, as its kernel finds them staged. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def sxstg (c : Dev nD) : (cc0_stg2_0 : Ref sig .tc).ty.Contents (Elt F) :=
  (win0_2.blk (0 : Fin 1)).view.read (Elt F) (m ((c : Thread nD τ).loc main_arg2))
def swstg (c : Dev nD) : (cc0_stg3_0 : Ref sig .tc).ty.Contents (Elt F) :=
  (win0_3.blk (0 : Fin 1)).view.read (Elt F) (m ((c : Thread nD τ).loc main_arg3))

theorem row_lt {h r : ℕ} (hr : r < 512) : 512 * (h % 2) + r < 1024 := by omega

/-- What device `c`'s gathering buffer holds once everything has arrived. -/
def gath (c : Dev nD) : (cc0_scratch0 : Ref sig .tc).ty.Contents (Elt F) := fun i =>
  (xstg m (org c (i 0).val) : S1024x4096.Idx → Elt F .fp8e4m3) (ix2 ⟨512 * ((i 0).val % 2) + (i 1).val, row_lt (i 1).isLt⟩ ⟨(i 2).val, (i 2).isLt⟩)

omit [FloatOps F] in
/-- Two elements from the same device, half, row and column are the same. -/
theorem gath_eq (c c' : Dev nD) (i i' : S8x512x4096.Idx) (ho : org c (i 0).val = org c' (i' 0).val)
    (h0 : (i 0).val % 2 = (i' 0).val % 2) (h1 : (i 1).val = (i' 1).val) (h2 : (i 2).val = (i' 2).val) : gath m c i = gath m c' i' := by
  unfold gath
  simp only [ho, h0, h1, h2]

omit [FloatOps F] in
/-- A slot copied from a device that holds it lands as the receiver's own. -/
theorem land_slot (c c' : Dev nD) (j j' : ℕ) (hj : j < 8) (hj' : j' < 8) (fd : (cc0_scratch0 : Ref sig .tc).ty.Contents (Elt F))
    (ho : org c j = org c' j') (h0 : j % 2 = j' % 2) (i : S8x512x4096.Idx) (hi : i ∈ (slotM j' hj').view.set) :
    (slotM j' hj').view.write (Elt F) fd ((slotM j hj).view.read (Elt F) (gath m c)) Finset.univ i = gath m c' i := by
  obtain ⟨k, rfl⟩ := View.exists_emb_of_mem_set _ hi
  rw [View.write_emb_of_mem _ _ (Finset.mem_univ k)]
  show gath m c ((slotM j hj).view.emb k) = _
  have e (j : ℕ) (hj : j < 8) (a : Fin 3) : (((slotM j hj).view.emb k : S8x512x4096.Idx) a).val
      = (![j, 0, 0] : Fin 3 → ℕ) a + 1 * ((Shape.reshapeEquiv (s := S1x512x4096) (s' := S512x4096) squeezes_S1x512x4096_S512x4096.numel_eq k) a).val := rfl
  have z : ((Shape.reshapeEquiv (s := S1x512x4096) (s' := S512x4096) squeezes_S1x512x4096_S512x4096.numel_eq k) 0).val = 0 := by
    have := ((Shape.reshapeEquiv (s := S1x512x4096) (s' := S512x4096) squeezes_S1x512x4096_S512x4096.numel_eq k) 0).isLt
    have h : ((Shape.reshapeEquiv (s := S1x512x4096) (s' := S512x4096) squeezes_S1x512x4096_S512x4096.numel_eq k) 0).val < 1 := this
    omega
  have e0 (j : ℕ) (hj : j < 8) : (((slotM j hj).view.emb k : S8x512x4096.Idx) 0).val = j := by
    rw [e j hj 0, z]; rfl
  refine gath_eq m c c' _ _ ?_ ?_ ?_ ?_
  · rw [e0, e0]; exact ho
  · rw [e0, e0]; exact h0
  · rw [e j hj, e j' hj']; rfl
  · rw [e j hj, e j' hj']; rfl

omit [FloatOps F] in
/-- And a half slot to the same rows. -/
theorem land_half (c c' : Dev nD) (j j' lo : ℕ) (hj : j < 8) (hj' : j' < 8) (hlo : lo ≤ 256) (fd : (cc0_scratch0 : Ref sig .tc).ty.Contents (Elt F))
    (ho : org c j = org c' j') (h0 : j % 2 = j' % 2) (i : S8x512x4096.Idx) (hi : i ∈ (halfM j' lo hj' hlo).view.set) :
    (halfM j' lo hj' hlo).view.write (Elt F) fd ((halfM j lo hj hlo).view.read (Elt F) (gath m c)) Finset.univ i = gath m c' i := by
  obtain ⟨k, rfl⟩ := View.exists_emb_of_mem_set _ hi
  rw [View.write_emb_of_mem _ _ (Finset.mem_univ k)]
  show gath m c ((halfM j lo hj hlo).view.emb k) = _
  have e (j : ℕ) (hj : j < 8) (a : Fin 3) : (((halfM j lo hj hlo).view.emb k : S8x512x4096.Idx) a).val
      = (![j, lo, 0] : Fin 3 → ℕ) a + 1 * ((Shape.reshapeEquiv (s := S1x256x4096) (s' := S256x4096) squeezes_S1x256x4096_S256x4096.numel_eq k) a).val := rfl
  have z : ((Shape.reshapeEquiv (s := S1x256x4096) (s' := S256x4096) squeezes_S1x256x4096_S256x4096.numel_eq k) 0).val = 0 := by
    have := ((Shape.reshapeEquiv (s := S1x256x4096) (s' := S256x4096) squeezes_S1x256x4096_S256x4096.numel_eq k) 0).isLt
    have h : ((Shape.reshapeEquiv (s := S1x256x4096) (s' := S256x4096) squeezes_S1x256x4096_S256x4096.numel_eq k) 0).val < 1 := this
    omega
  have e0 (j : ℕ) (hj : j < 8) : (((halfM j lo hj hlo).view.emb k : S8x512x4096.Idx) 0).val = j := by
    rw [e j hj 0, z]; rfl
  refine gath_eq m c c' _ _ ?_ ?_ ?_ ?_
  · rw [e0, e0]; exact ho
  · rw [e0, e0]; exact h0
  · rw [e j hj, e j' hj']; rfl
  · rw [e j hj, e j' hj']; rfl

end Cert.RingProof

end
-- ==== Proof.Sched.lean ====
/-
The rounds schedule: one round on every semaphore cell.

A device's barrier cell is paid by its two neighbours, each handing over the three slots of its own gathering buffer the
other will copy into. A send cell gives back the share of the slot the copy read; a receive cell gives the slot (or half
slot) that landed, holding `gath`.
-/
module

public import proofs.«01_k».proof.Proof.Contents

@[expose] public section

noncomputable section

namespace Cert.RingProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Where each copy goes -/

/-- Copy `t`'s target device and receive semaphore. -/
def tgt (c : Dev nD) (t : ℕ) : Dev nD := if t = 1 ∨ t = 3 ∨ t = 6 ∨ t = 7 then prv c else nxt c
def rix : ℕ → Fin 8
  | 0 => 0 | 1 => 3 | 2 => 1 | 3 => 2 | 4 => 4 | 5 => 5 | 6 => 6 | _ => 7
/-- What copy `t` counts, and what send or receive semaphore `t` of the eight counts. -/
def amt (t : ℕ) : ℕ := if t < 4 then NF else NH

theorem amt_pos (t : ℕ) : 0 < amt t := by unfold amt; split; exacts [NF_pos, NH_pos]
theorem amt_full {t : ℕ} (h : t < 4) : amt t = NF := if_pos h
theorem amt_half {t : ℕ} (h : ¬ t < 4) : amt t = NH := if_neg h

/-! ## The payloads -/

/-- What the right neighbour hands over with its unit on `d`'s barrier cell: its slots 2, 3 and 6. -/
def barT (d : Dev nD) : sProp 𝕄 :=
  iprop(∃ f, slotP (nxt d) 2 (by decide) fullShare f ∗ slotP (nxt d) 3 (by decide) fullShare f ∗ slotP (nxt d) 6 (by decide) fullShare f)
/-- And the left neighbour: its slots 4, 5 and 7. -/
def barF (d : Dev nD) : sProp 𝕄 :=
  iprop(∃ f, slotP (prv d) 4 (by decide) fullShare f ∗ slotP (prv d) 5 (by decide) fullShare f ∗ slotP (prv d) 7 (by decide) fullShare f)

/-- What copy `t` reads, at the share lent to it. Slots 0 and 1 are read by two copies at once. -/
def sndPay (c : Dev nD) : ℕ → sProp 𝕄
  | 0 => slotP c 0 (by decide) fullShare.left (gath m c)
  | 1 => slotP c 1 (by decide) fullShare.left (gath m c)
  | 2 => slotP c 1 (by decide) fullShare.right.left (gath m c)
  | 3 => slotP c 0 (by decide) fullShare.right.left (gath m c)
  | 4 => halfP c 2 0 (by decide) (by decide) fullShare.left (gath m c)
  | 5 => halfP c 2 256 (by decide) (by decide) fullShare.left (gath m c)
  | 6 => halfP c 5 0 (by decide) (by decide) fullShare.left (gath m c)
  | _ => halfP c 5 256 (by decide) (by decide) fullShare.left (gath m c)

/-- What lands with receive semaphore `k`. -/
def rcvPay (c : Dev nD) : ℕ → sProp 𝕄
  | 0 => slotP c 2 (by decide) fullShare (gath m c)
  | 1 => slotP c 3 (by decide) fullShare (gath m c)
  | 2 => slotP c 4 (by decide) fullShare (gath m c)
  | 3 => slotP c 5 (by decide) fullShare (gath m c)
  | 4 => halfP c 6 0 (by decide) (by decide) fullShare (gath m c)
  | 5 => halfP c 6 256 (by decide) (by decide) fullShare (gath m c)
  | 6 => halfP c 7 0 (by decide) (by decide) fullShare (gath m c)
  | _ => halfP c 7 256 (by decide) (by decide) fullShare (gath m c)

omit [FloatOps F] in
instance sndPay_storable (c : Dev nD) (t : ℕ) : BI.Storable (upEmb : UEmb _ 𝕄) (sndPay m c t) := by
  unfold sndPay; split <;> infer_instance
omit [FloatOps F] in
instance rcvPay_storable (c : Dev nD) (k : ℕ) : BI.Storable (upEmb : UEmb _ 𝕄) (rcvPay m c k) := by
  unfold rcvPay; split <;> infer_instance

/-! ## The schedule -/

def dutiesOf : SemLoc sig → Finset Bool
  | .reg s => if s = barS then Finset.univ else ∅
  | .dma q => if 5 ≤ q.val then {false} else ∅
def amountOf' : SemLoc sig → ℕ
  | .reg _ => 1
  | .dma q => amt ((q.val - 5) % 8)
def payOf (c : Dev nD) (b : Bool) : SemLoc sig → sProp 𝕄
  | .reg _ => if b then barT c else barF c
  | .dma q => if q.val < 13 then sndPay m c (q.val - 5) else rcvPay m c (q.val - 13)

def gatherRd : Rounds.Schedule (GSem nD τ sig) Bool 𝕄 where
  duties g r := if r = 0 ∧ g.1.2 = .tc then dutiesOf g.2 else ∅
  unitless _ := False
  amount g _ _ := amountOf' g.2
  payload g _ d := payOf m g.1.1 d g.2
  amount_pos g _ _ _ := by
    obtain ⟨_, q | q⟩ := g
    · exact Nat.one_pos
    · exact amt_pos _

omit [FloatOps F] in
instance gatherRd_storable (g : GSem nD τ sig) (r : ℕ) (d : Bool) : BI.Storable (upEmb : UEmb _ 𝕄) ((gatherRd m).payload g r d) := by
  show BI.Storable upEmb (payOf m g.1.1 d g.2)
  unfold payOf barT barF
  split
  · split <;> infer_instance
  · split <;> infer_instance

section Facts
variable (c : Dev nD)

omit [FloatOps F] in
theorem duties_bar : (gatherRd m).duties (barCell c) 0 = Finset.univ := by
  show (if 0 = 0 ∧ ((c : Thread nD τ)).2 = .tc then dutiesOf (.reg barS) else ∅) = _
  rw [if_pos ⟨rfl, rfl⟩]; unfold dutiesOf; exact if_pos rfl
omit [FloatOps F] in
theorem duties_dma (q : DmaSem sig) (hq : 5 ≤ q.val) : (gatherRd m).duties ((c : Thread nD τ), .dma q) 0 = {false} := by
  show (if 0 = 0 ∧ ((c : Thread nD τ)).2 = .tc then dutiesOf (.dma q) else ∅) = _
  rw [if_pos ⟨rfl, rfl⟩]; unfold dutiesOf; exact if_pos hq
omit [FloatOps F] in
theorem duties_over (g : GSem nD τ sig) : ∀ r, 1 ≤ r → (gatherRd m).duties g r = ∅ := fun r hr =>
  if_neg fun h => by omega

omit [FloatOps F] in
theorem expect_bar : (gatherRd m).expect (barCell c) 0 = 2 := by
  unfold Schedule.expect Schedule.amountOf
  rw [duties_bar]; rfl
omit [FloatOps F] in
theorem expect_dma (q : DmaSem sig) (hq : 5 ≤ q.val) : (gatherRd m).expect ((c : Thread nD τ), .dma q) 0 = amt ((q.val - 5) % 8) := by
  unfold Schedule.expect Schedule.amountOf
  rw [duties_dma m c q hq, Finset.sum_singleton]; rfl

omit [FloatOps F] in
theorem rest_bar : bigSep ((gatherRd m).duties (barCell c) 0 \ ∅) (fun d => (gatherRd m).payload (barCell c) 0 d) = iprop(barF c ∗ barT c) := by
  rw [Finset.sdiff_empty, duties_bar, bigSep_univ_eq_bigSepL [false, true] (by decide) (by decide), bigSepL_cons_cons, bigSepL_singleton]
  rfl
omit [FloatOps F] in
theorem rest_dma (q : DmaSem sig) (hq : 5 ≤ q.val) :
    bigSep ((gatherRd m).duties ((c : Thread nD τ), .dma q) 0 \ ∅) (fun d => (gatherRd m).payload ((c : Thread nD τ), .dma q) 0 d)
      = payOf m c false (.dma q) := by
  rw [Finset.sdiff_empty, duties_dma m c q hq, bigSep_singleton]; rfl

end Facts

/-! ## What each device owes; the levels -/

/-- What is still owed when `n` copies remain: the last `n` copies' counts on their targets' receive cells, the next to
    start outermost. -/
def rem (c : Dev nD) : ℕ → CellTallies nD τ sig Unit
  | 0 => 0
  | n + 1 => rem c n + tallyAt (rcvCell (tgt c (7 - n)) (rix (7 - n))) () (amt (7 - n))
/-- Before the second and the first signal. -/
def O₁ (c : Dev nD) : CellTallies nD τ sig Unit := rem c 8 + tallyAt (barCell (nxt c)) () 1
def O₀ (c : Dev nD) : CellTallies nD τ sig Unit := O₁ c + tallyAt (barCell (prv c)) () 1

def L (g : GSem nD τ sig) : Finset Unit := if g.1.2 = .tc then {()} else ∅
/-- The barrier below the receive cells of the whole slots, those below the receive cells of the relayed halves. -/
def lvS : SemLoc sig → ℕ
  | .reg _ => 1
  | .dma q => if q.val < 13 then 0 else if q.val < 17 then 2 else 3
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem rem_pos {c : Dev nD} {g : GSem nD τ sig} {u : Unit} (n : ℕ) (hn : n ≤ 8) (h : 0 < rem c n g u) :
    ∃ t, t < 8 ∧ 8 ≤ n + t ∧ g = rcvCell (tgt c t) (rix t) := by
  induction n with
  | zero => exact absurd h (Nat.lt_irrefl 0)
  | succ n ih =>
    unfold rem at h
    rw [Pi.add_apply, Finsupp.add_apply, tallyAt_apply] at h
    by_cases hg : g = rcvCell (tgt c (7 - n)) (rix (7 - n)) ∧ u = ()
    · exact ⟨7 - n, by omega, by omega, hg.1⟩
    · rw [if_neg hg] at h
      obtain ⟨t, h8, ht, e⟩ := ih (by omega) h
      exact ⟨t, h8, by omega, e⟩

theorem lv_rcv (d : Dev nD) (k : Fin 8) : lv (rcvCell d k) () = if k.val < 4 then 2 else 3 := by
  show (if 13 + k.val < 13 then 0 else if 13 + k.val < 17 then 2 else 3) = _
  rw [if_neg (by omega)]
  by_cases h : k.val < 4
  · rw [if_pos h, if_pos (by omega)]
  · rw [if_neg h, if_neg (by omega)]

omit [FloatOps F] in
/-- A device may wait at a cell whose level is below that of every cell it owes. -/
theorem mayWait_below (c : Dev nD) (sm : SemLoc sig) (b : ℕ) (O : CellTallies nD τ sig Unit) (hb : lvS sm ≤ b)
    (hO : ∀ g u, 0 < O g u → g.1.2 = .tc ∧ b < lv g u) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

omit [FloatOps F] in
/-- At the barrier it owes the eight copies. -/
theorem mayWait_bar (c : Dev nD) : (levAts L lv : sProp 𝕄) ⊢ MayWait (c : Thread nD τ) (.reg barS) () (rem c 8) :=
  mayWait_below c _ 1 _ (le_refl _) fun g u h => by
    obtain ⟨t, _, _, rfl⟩ := rem_pos 8 (le_refl _) h
    refine ⟨rfl, ?_⟩; rw [lv_rcv]; split <;> decide

omit [FloatOps F] in
/-- At a whole slot's receive cell it owes at most the four relayed halves. -/
theorem mayWait_rcv (c : Dev nD) (k : Fin 8) (hk : k.val < 4) (n : ℕ) (hn : n ≤ 4) :
    (levAts L lv : sProp 𝕄) ⊢ MayWait (c : Thread nD τ) (.dma (rcvS k)) () (rem c n) :=
  mayWait_below c _ 2 _ (by have := lv_rcv c k; rw [if_pos hk] at this; exact le_of_eq this) fun g u h => by
    obtain ⟨t, h8, ht, rfl⟩ := rem_pos n (by omega) h
    refine ⟨rfl, ?_⟩; rw [lv_rcv]
    have h4 : ∀ t, 4 ≤ t → t < 8 → ¬ (rix t).val < 4 := by
      intro t h h'; interval_cases t <;> decide
    rw [if_neg (h4 t (by omega) h8)]; decide

omit [FloatOps F] in
/-- At a staging semaphore's cell it owes what it owes at the start, or nothing. -/
theorem mayWait_stage (c : Dev nD) (q : DmaSem sig) (hq : q.val < 13) (O : CellTallies nD τ sig Unit) (hO : O = O₀ c ∨ O = 0) :
    (levAts L lv : sProp 𝕄) ⊢ MayWait (c : Thread nD τ) (.dma q) () O := by
  rcases hO with rfl | rfl
  · have h0 : lvS (.dma q) = 0 := by unfold lvS; exact if_pos hq
    refine mayWait_below c _ 0 _ (le_of_eq h0) fun g u h => ?_
    unfold O₀ O₁ at h
    rw [Pi.add_apply, Finsupp.add_apply, Pi.add_apply, Finsupp.add_apply, tallyAt_apply, tallyAt_apply] at h
    by_cases h1 : g = barCell (nxt c) ∧ u = ()
    · rw [h1.1]; exact ⟨rfl, Nat.one_pos⟩
    by_cases h2 : g = barCell (prv c) ∧ u = ()
    · rw [h2.1]; exact ⟨rfl, Nat.one_pos⟩
    rw [if_neg h1, if_neg h2, Nat.add_zero] at h
    obtain ⟨t, _, _, rfl⟩ := rem_pos 8 (le_refl _) h
    refine ⟨rfl, ?_⟩; rw [lv_rcv]; split <;> decide
  · rw [MayWait_zero]; iintro -; iempintro

/-! ## The seventeen cells -/

/-- The barrier cell, then the eight send cells, then the eight receive cells. -/
def semAt (k : Fin 17) : SemLoc sig := if h : k.val = 0 then .reg barS else .dma ⟨4 + k.val, by have := k.isLt; show 4 + k.val < 21; omega⟩
abbrev cellAt (x : Dev nD × Fin 17) : GSem nD τ sig := ((x.1 : Thread nD τ), semAt x.2)

abbrev sndIx (t : Fin 8) : Fin 17 := ⟨t.val + 1, by omega⟩
abbrev rcvIx (k : Fin 8) : Fin 17 := ⟨k.val + 9, by omega⟩

theorem cellAt_bar (c : Dev nD) : cellAt (c, 0) = barCell c := rfl
theorem semAt_succ (k : Fin 17) (q : DmaSem sig) (h0 : k.val ≠ 0) (h : 4 + k.val = q.val) : semAt k = .dma q := by
  unfold semAt; rw [dif_neg h0]; exact congrArg SemLoc.dma (Fin.ext h)
theorem cellAt_snd (c : Dev nD) (t : Fin 8) : cellAt (c, sndIx t) = sndCell c t :=
  Prod.ext rfl (semAt_succ (sndIx t) (sndS t) (Nat.succ_ne_zero _) (by show 4 + (t.val + 1) = 5 + t.val; omega))
theorem cellAt_rcv (c : Dev nD) (k : Fin 8) : cellAt (c, rcvIx k) = rcvCell c k :=
  Prod.ext rfl (semAt_succ (rcvIx k) (rcvS k) (Nat.succ_ne_zero _) (by show 4 + (k.val + 9) = 13 + k.val; omega))

theorem semAt_inj {k k' : Fin 17} (h : semAt k = semAt k') : k = k' := by
  unfold semAt at h
  refine Fin.ext ?_
  split at h <;> split at h
  · omega
  · cases h
  · cases h
  · have h2 := SemLoc.dma.inj h
    have h3 : 4 + k.val = 4 + k'.val := congrArg (fun q : DmaSem sig => q.val) h2
    omega
theorem cellAt_inj : Function.Injective (cellAt : Dev nD × Fin 17 → GSem nD τ sig) := fun x y h => by
  have h1 : x.1 = y.1 := congrArg (fun g : GSem nD τ sig => g.1.1) h
  have h2 : semAt x.2 = semAt y.2 := congrArg Prod.snd h
  exact Prod.ext h1 (semAt_inj h2)

/-- Every cell's invariant, at the names `K`, and that each is at round 0. -/
def records (K : Dev nD × Fin 17 → ℕ) : sProp 𝕄 :=
  iprop((bigSep Finset.univ fun x => cellInv ER (gatherRd m) (K x) (cellAt x)) ∗ bigSep Finset.univ fun x => reached ER (cellAt x) 0)

omit [FloatOps F] in
instance records_persistent (K : Dev nD × Fin 17 → ℕ) : BI.Persistent (records m K) := by unfold records; infer_instance

omit [FloatOps F] in
theorem inv_at (K : Dev nD × Fin 17 → ℕ) (x : Dev nD × Fin 17) {g : GSem nD τ sig} (h : cellAt x = g) :
    records m K ⊢ cellInv ER (gatherRd m) (K x) g := by
  subst h; unfold records
  have e : (bigSep Finset.univ fun x : Dev nD × Fin 17 => (cellInv ER (gatherRd m) (K x) (cellAt x) : sProp 𝕄)) ⊢ cellInv ER (gatherRd m) (K x) (cellAt x) :=
    bigSep_elim (Finset.mem_univ x)
  iintro ⟨H, -⟩
  iapply e; iexact H
omit [FloatOps F] in
theorem reached_at (K : Dev nD × Fin 17 → ℕ) (x : Dev nD × Fin 17) {g : GSem nD τ sig} (h : cellAt x = g) :
    records m K ⊢ reached ER g 0 := by
  subst h; unfold records
  have e : (bigSep Finset.univ fun x : Dev nD × Fin 17 => (reached ER (cellAt x) 0 : sProp 𝕄)) ⊢ reached ER (cellAt x) 0 :=
    bigSep_elim (Finset.mem_univ x)
  iintro ⟨-, H⟩
  iapply e; iexact H

end Cert.RingProof

end
-- ==== Proof.Steps.lean ====
/-
One rule for each kind of step the body takes: a copy of a slot or half slot, and a wait for one.
-/
module

public import proofs.«01_k».proof.Proof.Sched

@[expose] public section

noncomputable section

namespace Cert.RingProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Every cell's record and the levels: what any device may use at any time. -/
def known (K : Dev nD × Fin 17 → ℕ) : sProp 𝕄 := iprop(records m K ∗ levAts L lv)

omit [FloatOps F] in
instance known_persistent (K : Dev nD × Fin 17 → ℕ) : BI.Persistent (known m K) := by unfold known; infer_instance

/-- What device `c` still owes, having waited on whatever it has. -/
def owesE (c : Dev nD) (O : CellTallies nD τ sig Unit) : sProp 𝕄 := iprop(∃ W, owes (c : Thread nD τ) O W)

/-- A copy's count depends only on its shape. -/
theorem slot_credit (j : ℕ) (hj : j < 8) : (slotM j hj).view.dmaCredit = NF := rfl
theorem half_credit (j lo : ℕ) (hj : j < 8) (hlo : lo ≤ 256) : (halfM j lo hj hlo).view.dmaCredit = NH := rfl

theorem rem_succ (c : Dev nD) (a t : ℕ) (ha : 7 - a = t) :
    rem c (a + 1) = rem c a + tallyAt (rcvCell (tgt c t) (rix t)) () (amt t) := by
  subst ha; rfl

omit [FloatOps F] in
theorem pay_snd (c : Dev nD) (t : Fin 8) : payOf m c false (.dma (sndS t)) = sndPay m c t.val := by
  have h : (if 5 + t.val < 13 then sndPay m c (5 + t.val - 5) else rcvPay m c (5 + t.val - 13)) = sndPay m c t.val := by
    rw [if_pos (by omega), Nat.add_sub_cancel_left]
  exact h
omit [FloatOps F] in
theorem pay_rcv (c : Dev nD) (k : Fin 8) : payOf m c false (.dma (rcvS k)) = rcvPay m c k.val := by
  have h : (if 13 + k.val < 13 then sndPay m c (13 + k.val - 5) else rcvPay m c (13 + k.val - 13)) = rcvPay m c k.val := by
    rw [if_neg (by omega), Nat.add_sub_cancel_left]
  exact h

section Steps
variable (K : Dev nD × Fin 17 → ℕ)

/-! ## A copy -/

/-- Copy `t` of a whole slot: slot `j` read at share `q`, to slot `j'` of the target. -/
theorem send_slot (c n : Dev nD) (t k : Fin 8) (a j j' : ℕ) (hj : j < 8) (hj' : j' < 8) (q : PosShare TreeShare)
    (ha : 7 - a = t.val) (ht : t.val < 4) (hn : n = tgt c t.val) (hk : rix t.val = k)
    (hS : sndPay m c t.val = slotP c j hj q (gath m c)) (hR : rcvPay m (tgt c t.val) k.val = slotP (tgt c t.val) j' hj' fullShare (gath m (tgt c t.val)))
    (ho : org c j = org (tgt c t.val) j') (hp : j % 2 = j' % 2) (hk4 : k.val < 4)
    {hsc : (slotM j' hj' : Memref sig (Dev.tc n : Thread nD τ).2.kind .vmem S512x4096 .fp8e4m3).view.ref.isScScratch = false}
    {hsrc : (slotM j hj).view.WordExact} {hdst : (slotM j' hj').view.WordExact}
    {hsem : DmaTarget.Typed .vmem (.dma (rcvS k)) (.remote (Dev.tc n : Thread nD τ) (slotM j' hj') (.dma (sndS t)) hsc)}
    {α : Type} {Q : α → sProp 𝕄} {kk : PUnit → Prog (TpuEff nD τ sig (Elt F) Λ₀ .tc) α}
    (fd : Buf (Elt F) ((tgt c t.val : Thread nD τ).loc cc0_scratch0)) :
    iprop(known m K ∗ slotP c j hj q (gath m c) ∗ slotP (tgt c t.val) j' hj' fullShare fd ∗ owesE c (rem c (a + 1))
        ∗ dutyTok ER (sndCell c t) 0 false ∗ dutyTok ER (rcvCell (tgt c t.val) k) 0 false)
      ⊢ iprop(((cred (tallyAt (sndCell c t) () (amt t.val)) ∗ owesE c (rem c a)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM j hj) (.remote (Dev.tc n : Thread nD τ) (slotM j' hj') (.dma (sndS t)) hsc) (.dma (rcvS k)) hsrc hdst hsem) kk) Q) := by
  subst hn; subst hk
  have hq1 : 5 ≤ (sndS t).val := by show 5 ≤ 5 + t.val; omega
  have hq2 : 5 ≤ (rcvS (rix t.val)).val := by show 5 ≤ 13 + (rix t.val).val; omega
  have hN : (slotM j' hj').view.amount (.dma (rcvS (rix t.val))) = NF := slot_credit j' hj'
  have hO : rem c (a + 1) = rem c a + tallyAt (rcvCell (tgt c t.val) (rix t.val)) () NF := by
    rw [rem_succ c a t.val ha, amt_full ht]
  unfold known owesE
  iintro ⟨⟨#HR, #HL⟩, Hs, Hd, ⟨%W, HO⟩, Ht1, Ht2⟩ Hk
  iapply (Rounds.wp_send_pointsTo 𝒱₀ ER (gatherRd m) (c : Thread nD τ) none (κ₁ := K (c, sndIx t)) (κ₂ := K (tgt c t.val, rcvIx (rix t.val)))
    (r₁ := 0) (r₂ := 0) (d₁ := false) (d₂ := false) (src := slotM j hj) (q := q) (fs := gath m c) (fd := fd)
    (by rw [duties_dma m c _ hq1]; exact Finset.mem_singleton_self _) (by rw [duties_dma m _ _ hq2]; exact Finset.mem_singleton_self _)
    () () NF hN
    (by show amt ((5 + t.val - 5) % 8) = NF; exact amt_full (by omega))
    (by show amt ((13 + (rix t.val).val - 5) % 8) = NF; exact amt_full (by omega)) (rem c a)
    hO (W := W)
    (by
      show _ ⊢ payOf m c false (.dma (sndS t))
      rw [pay_snd, hS]
      unfold slotP; exact BI.Entails.refl _)
    (by
      show _ ⊢ payOf m (tgt c t.val) false (.dma (rcvS (rix t.val)))
      rw [pay_rcv, hR]
      unfold slotP
      exact Entails.of_eq (pointsTo_congr fun i hi => land_slot m c (tgt c t.val) j j' hj hj' fd ho hp i hi))) $$ [Hs Hd HO Ht1 Ht2]
  · isplitr; · iapply (inv_at m K (c, sndIx t) (cellAt_snd c t)); iexact HR
    isplitr; · iapply (inv_at m K (tgt c t.val, rcvIx (rix t.val)) (cellAt_rcv _ _)); iexact HR
    isplitl [Hs]; · unfold slotP; iexact Hs
    isplitl [Hd]; · unfold slotP; iexact Hd
    isplitl [HO]; · iexact HO
    isplitl [Ht1]; · iexact Ht1
    isplitr; · iapply (reached_at m K (c, sndIx t) (cellAt_snd c t)); iexact HR
    isplitl [Ht2]; · iexact Ht2
    iapply (reached_at m K (tgt c t.val, rcvIx (rix t.val)) (cellAt_rcv _ _)); iexact HR
  iintro ⟨Hc, HO⟩
  iapply Hk
  rw [amt_full ht]
  isplitl [Hc]; · iexact Hc
  iexists W; iexact HO

/-- Copy `t` of half a slot: the rows from `lo` of slot `j` read at share `q`, to the same rows of slot `j'` of the target. -/
theorem send_half (c n : Dev nD) (t k : Fin 8) (a j j' lo : ℕ) (hj : j < 8) (hj' : j' < 8) (hlo : lo ≤ 256) (q : PosShare TreeShare)
    (ha : 7 - a = t.val) (ht : ¬ t.val < 4) (hn : n = tgt c t.val) (hk : rix t.val = k)
    (hS : sndPay m c t.val = halfP c j lo hj hlo q (gath m c))
    (hR : rcvPay m (tgt c t.val) k.val = halfP (tgt c t.val) j' lo hj' hlo fullShare (gath m (tgt c t.val)))
    (ho : org c j = org (tgt c t.val) j') (hp : j % 2 = j' % 2) (hk4 : ¬ k.val < 4)
    {hsc : (halfM j' lo hj' hlo : Memref sig (Dev.tc n : Thread nD τ).2.kind .vmem S256x4096 .fp8e4m3).view.ref.isScScratch = false}
    {hsrc : (halfM j lo hj hlo).view.WordExact} {hdst : (halfM j' lo hj' hlo).view.WordExact}
    {hsem : DmaTarget.Typed .vmem (.dma (rcvS k)) (.remote (Dev.tc n : Thread nD τ) (halfM j' lo hj' hlo) (.dma (sndS t)) hsc)}
    {α : Type} {Q : α → sProp 𝕄} {kk : PUnit → Prog (TpuEff nD τ sig (Elt F) Λ₀ .tc) α}
    (fd : Buf (Elt F) ((tgt c t.val : Thread nD τ).loc cc0_scratch0)) :
    iprop(known m K ∗ halfP c j lo hj hlo q (gath m c) ∗ halfP (tgt c t.val) j' lo hj' hlo fullShare fd ∗ owesE c (rem c (a + 1))
        ∗ dutyTok ER (sndCell c t) 0 false ∗ dutyTok ER (rcvCell (tgt c t.val) k) 0 false)
      ⊢ iprop(((cred (tallyAt (sndCell c t) () (amt t.val)) ∗ owesE c (rem c a)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (halfM j lo hj hlo) (.remote (Dev.tc n : Thread nD τ) (halfM j' lo hj' hlo) (.dma (sndS t)) hsc) (.dma (rcvS k)) hsrc hdst hsem) kk) Q) := by
  subst hn; subst hk
  have hq1 : 5 ≤ (sndS t).val := by show 5 ≤ 5 + t.val; omega
  have hq2 : 5 ≤ (rcvS (rix t.val)).val := by show 5 ≤ 13 + (rix t.val).val; omega
  have hN : (halfM j' lo hj' hlo).view.amount (.dma (rcvS (rix t.val))) = NH := half_credit j' lo hj' hlo
  have hO : rem c (a + 1) = rem c a + tallyAt (rcvCell (tgt c t.val) (rix t.val)) () NH := by
    rw [rem_succ c a t.val ha, amt_half ht]
  unfold known owesE
  iintro ⟨⟨#HR, #HL⟩, Hs, Hd, ⟨%W, HO⟩, Ht1, Ht2⟩ Hk
  iapply (Rounds.wp_send_pointsTo 𝒱₀ ER (gatherRd m) (c : Thread nD τ) none (κ₁ := K (c, sndIx t)) (κ₂ := K (tgt c t.val, rcvIx (rix t.val)))
    (r₁ := 0) (r₂ := 0) (d₁ := false) (d₂ := false) (src := halfM j lo hj hlo) (q := q) (fs := gath m c) (fd := fd)
    (by rw [duties_dma m c _ hq1]; exact Finset.mem_singleton_self _) (by rw [duties_dma m _ _ hq2]; exact Finset.mem_singleton_self _)
    () () NH hN
    (by show amt ((5 + t.val - 5) % 8) = NH; exact amt_half (by omega))
    (by show amt ((13 + (rix t.val).val - 5) % 8) = NH; exact amt_half (by omega)) (rem c a)
    hO (W := W)
    (by
      show _ ⊢ payOf m c false (.dma (sndS t))
      rw [pay_snd, hS]
      unfold halfP; exact BI.Entails.refl _)
    (by
      show _ ⊢ payOf m (tgt c t.val) false (.dma (rcvS (rix t.val)))
      rw [pay_rcv, hR]
      unfold halfP
      exact Entails.of_eq (pointsTo_congr fun i hi => land_half m c (tgt c t.val) j j' lo hj hj' hlo fd ho hp i hi))) $$ [Hs Hd HO Ht1 Ht2]
  · isplitr; · iapply (inv_at m K (c, sndIx t) (cellAt_snd c t)); iexact HR
    isplitr; · iapply (inv_at m K (tgt c t.val, rcvIx (rix t.val)) (cellAt_rcv _ _)); iexact HR
    isplitl [Hs]; · unfold halfP; iexact Hs
    isplitl [Hd]; · unfold halfP; iexact Hd
    isplitl [HO]; · iexact HO
    isplitl [Ht1]; · iexact Ht1
    isplitr; · iapply (reached_at m K (c, sndIx t) (cellAt_snd c t)); iexact HR
    isplitl [Ht2]; · iexact Ht2
    iapply (reached_at m K (tgt c t.val, rcvIx (rix t.val)) (cellAt_rcv _ _)); iexact HR
  iintro ⟨Hc, HO⟩
  iapply Hk
  rw [amt_half ht]
  isplitl [Hc]; · iexact Hc
  iexists W; iexact HO

/-! ## A wait -/

/-- A wait for one of the sixteen copy semaphores' single round: the payload, and the cell closed. -/
theorem wait_dma (c : Dev nD) (q : DmaSem sig) (x : Fin 17) (hx : cellAt (c, x) = ((c : Thread nD τ), .dma q)) (hq : 5 ≤ q.val)
    (O : CellTallies nD τ sig Unit) (hm : (levAts L lv : sProp 𝕄) ⊢ MayWait (c : Thread nD τ) (.dma q) () O)
    {s s' : Shape} {src : Memref sig .tc .vmem s' .fp8e4m3} {dst : Memref sig .tc .vmem s .fp8e4m3}
    {hsrc : src.view.WordExact} {hdst : dst.view.WordExact} (hN : dst.view.dmaCredit = amt ((q.val - 5) % 8))
    {α : Type} {Q : α → sProp 𝕄} {k : PUnit → Prog (TpuEff nD τ sig (Elt F) Λ₀ .tc) α} :
    iprop(known m K ∗ cred (tallyAt ((c : Thread nD τ), SemLoc.dma q) () (amt ((q.val - 5) % 8))) ∗ owesE c O ∗ atPos ER ((c : Thread nD τ), .dma q) 0 ∅ 0)
      ⊢ iprop(((owesE c O ∗ semVal ((c : Thread nD τ), .dma q) 0 ∗ payOf m c false (.dma q))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold known owesE
  iintro ⟨⟨#HR, #HL⟩, Hc, ⟨%W, HO⟩, Hat⟩ Hk
  ihave #HI := (inv_at m K (c, x) hx) $$ HR
  iapply (Rounds.wp_wait_rest_token 𝒱₀ ER (gatherRd m) (c : Thread nD τ) none (κ := K (c, x))
      (wpE_waitDma2_eq 𝒱₀ (c : Thread nD τ) none Set.univ) (Set.mem_univ _) () (O := O) (W := W) (R := 0) (m := 0) (T := ∅)
      (by rw [Nat.zero_add, hN, expect_dma m c q hq])) $$ [Hc HO Hat]
  · isplitr; · iexact HI
    isplitl [Hc]; · rw [hN]; iexact Hc
    isplitl [HO]; · iexact HO
    isplitr; · iapply hm; iexact HL
    iexact Hat
  iintro ⟨HO, Hat, -, Hpay⟩
  ihave Hp := (Entails.of_eq (rest_dma m c q hq)) $$ Hpay
  imod (Rounds.cell_close ER (gatherRd m) (Set.mem_univ (K (c, x))) (fun h => h) (R := 0 + 1) (duties_over m _)) $$ [Hat] with Hz
  · isplitr; · iexact HI
    iexact Hat
  iapply Hk
  isplitl [HO]; · iexists _; iexact HO
  isplitl [Hz]; · iexact Hz
  iexact Hp

/-- A wait on receive semaphore `k`: what landed. -/
theorem wait_rcv (c : Dev nD) (k : Fin 8) (O : CellTallies nD τ sig Unit) (hm : (levAts L lv : sProp 𝕄) ⊢ MayWait (c : Thread nD τ) (.dma (rcvS k)) () O)
    {s s' : Shape} {src : Memref sig .tc .vmem s' .fp8e4m3} {dst : Memref sig .tc .vmem s .fp8e4m3}
    {hsrc : src.view.WordExact} {hdst : dst.view.WordExact} (hN : dst.view.dmaCredit = amt k.val)
    {α : Type} {Q : α → sProp 𝕄} {kk : PUnit → Prog (TpuEff nD τ sig (Elt F) Λ₀ .tc) α} :
    iprop(known m K ∗ cred (tallyAt (rcvCell c k) () (amt k.val)) ∗ owesE c O ∗ atPos ER (rcvCell c k) 0 ∅ 0)
      ⊢ iprop(((owesE c O ∗ semVal (rcvCell c k) 0 ∗ rcvPay m c k.val) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (rcvS k) src dst hsrc hdst) kk) Q) := by
  have e : (13 + k.val - 5) % 8 = k.val := by omega
  have h := wait_dma m K c (rcvS k) (rcvIx k) (cellAt_rcv c k) (by show 5 ≤ 13 + k.val; omega) O hm (src := src) (dst := dst) (hsrc := hsrc) (hdst := hdst)
    (by rw [show ((rcvS k).val - 5) % 8 = k.val from e]; exact hN) (Q := Q) (k := kk)
  rw [show ((rcvS k).val - 5) % 8 = k.val from e, pay_rcv] at h
  exact h

/-- A wait on send semaphore `t`: the share it read comes back. Nothing is owed by then. -/
theorem wait_snd (c : Dev nD) (t : Fin 8)
    {s s' : Shape} {src : Memref sig .tc .vmem s' .fp8e4m3} {dst : Memref sig .tc .vmem s .fp8e4m3}
    {hsrc : src.view.WordExact} {hdst : dst.view.WordExact} (hN : dst.view.dmaCredit = amt t.val)
    {α : Type} {Q : α → sProp 𝕄} {kk : PUnit → Prog (TpuEff nD τ sig (Elt F) Λ₀ .tc) α} :
    iprop(known m K ∗ cred (tallyAt (sndCell c t) () (amt t.val)) ∗ owesE c (rem c 0) ∗ atPos ER (sndCell c t) 0 ∅ 0)
      ⊢ iprop(((owesE c (rem c 0) ∗ semVal (sndCell c t) 0 ∗ sndPay m c t.val) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sndS t) src dst hsrc hdst) kk) Q) := by
  have e : (5 + t.val - 5) % 8 = t.val := by omega
  have h := wait_dma m K c (sndS t) (sndIx t) (cellAt_snd c t) (by show 5 ≤ 5 + t.val; omega) (rem c 0)
    (by rw [show rem c 0 = 0 from rfl, MayWait_zero]; iintro -; iempintro) (src := src) (dst := dst) (hsrc := hsrc) (hdst := hdst)
    (by rw [show ((sndS t).val - 5) % 8 = t.val from e]; exact hN) (Q := Q) (k := kk)
  rw [show ((sndS t).val - 5) % 8 = t.val from e, pay_snd] at h
  exact h

end Steps

end Cert.RingProof

end
-- ==== Proof.Tiles.lean ====
/-
The kernel's result as one function, and one rule for each kind of load and store the body makes.
-/
module

public import proofs.«01_k».proof.Proof.Steps

@[expose] public section

noncomputable section

namespace Cert.RingProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Tiles

/-! ## Reading and writing the slots -/

omit [FloatOps F] in
theorem slot_on (j : ℕ) (hj : j < 8) : bufM.view.setOn (slotR j hj).toLoadRect.set ⊆ (slotM j hj).view.set := by
  rw [slot_set]
  have h : ((View.whole cc0_scratch0).slice (slotR j hj)).set = (slotR j hj).set := View.set_slice_whole _ _
  rw [View.set_slice] at h
  exact le_of_eq h
omit [FloatOps F] in
theorem half_on (j lo : ℕ) (hj : j < 8) (hlo : lo ≤ 256) : bufM.view.setOn (halfR j lo hj hlo).toLoadRect.set ⊆ (halfM j lo hj hlo).view.set := by
  rw [half_set]
  have h : ((View.whole cc0_scratch0).slice (halfR j lo hj hlo)).set = (halfR j lo hj hlo).set := View.set_slice_whole _ _
  rw [View.set_slice] at h
  exact le_of_eq h

/-- A load of a slot held at any share, … -/
theorem load_slot (c : Dev nD) (j : ℕ) (hj : j < 8) (q : PosShare TreeShare) (f : Buf (Elt F) ((c : Thread nD τ).loc cc0_scratch0))
    {hl : bufM.view.LoadsAt (slotR j hj).toLoadRect} {α : Type} {Q : α → sProp 𝕄}
    {k : ((slotR j hj).toLoadRect.shape.Idx → Elt F .fp8e4m3) → Prog (TpuEff nD τ sig (Elt F) Λ₀ .tc) α} :
    slotP c j hj q f ⊢ iprop((slotP c j hj q f -∗ wp frame (wpE (defs₀ (F := F)) 𝒱₀ (c : Thread nD τ) none) Set.univ
        (k (bufM.view.readAt (Elt F) (slotR j hj).toLoadRect f)) Q)
      -∗ wp frame (wpE (defs₀ (F := F)) 𝒱₀ (c : Thread nD τ) none) Set.univ (.op (.load bufM (slotR j hj).toLoadRect hl) k) Q) := by
  unfold slotP
  exact wp_load 𝒱₀ (c : Thread nD τ) none Set.univ (m := bufM) (slot_on j hj)

/-- … and of a half slot. -/
theorem load_half (c : Dev nD) (j lo : ℕ) (hj : j < 8) (hlo : lo ≤ 256) (q : PosShare TreeShare) (f : Buf (Elt F) ((c : Thread nD τ).loc cc0_scratch0))
    {hl : bufM.view.LoadsAt (halfR j lo hj hlo).toLoadRect} {α : Type} {Q : α → sProp 𝕄}
    {k : ((halfR j lo hj hlo).toLoadRect.shape.Idx → Elt F .fp8e4m3) → Prog (TpuEff nD τ sig (Elt F) Λ₀ .tc) α} :
    halfP c j lo hj hlo q f ⊢ iprop((halfP c j lo hj hlo q f -∗ wp frame (wpE (defs₀ (F := F)) 𝒱₀ (c : Thread nD τ) none) Set.univ
        (k (bufM.view.readAt (Elt F) (halfR j lo hj hlo).toLoadRect f)) Q)
      -∗ wp frame (wpE (defs₀ (F := F)) 𝒱₀ (c : Thread nD τ) none) Set.univ (.op (.load bufM (halfR j lo hj hlo).toLoadRect hl) k) Q) := by
  unfold halfP
  exact wp_load 𝒱₀ (c : Thread nD τ) none Set.univ (m := bufM) (half_on j lo hj hlo)

/-- A store of a whole slot of what `gath` has there. -/
theorem store_slot (c : Dev nD) (j : ℕ) (hj : j < 8) (f : Buf (Elt F) ((c : Thread nD τ).loc cc0_scratch0))
    (w : (slotR j hj).shape.Idx → Elt F .fp8e4m3) (hw : ∀ k, w k = gath m c ((bufM.access (slotR j hj)).emb k))
    {hx : (bufM.access (slotR j hj)).Stores Finset.univ} {hm : (Finset.univ : Finset (slotR j hj).shape.Idx) = Finset.univ ∨ ∀ a, (slotR j hj).stride a = 1}
    {α : Type} {Q : α → sProp 𝕄} {k : PUnit → Prog (TpuEff nD τ sig (Elt F) Λ₀ .tc) α} :
    slotP c j hj fullShare f ⊢ iprop((slotP c j hj fullShare (gath m c) -∗ wp frame (wpE (defs₀ (F := F)) 𝒱₀ (c : Thread nD τ) none) Set.univ (k ⟨⟩) Q)
      -∗ wp frame (wpE (defs₀ (F := F)) 𝒱₀ (c : Thread nD τ) none) Set.univ (.op (.store bufM (slotR j hj) w Finset.univ hx hm) k) Q) := by
  have hs : (bufM.access (slotR j hj)).setOn Finset.univ ⊆ (slotM j hj).view.set := by
    rw [slot_set, View.setOn_univ]
    exact le_of_eq (View.set_slice_whole cc0_scratch0 (slotR j hj))
  have hc : ∀ i ∈ (slotM j hj).view.set, (bufM.access (slotR j hj)).write (Elt F) f w Finset.univ i = gath m c i := fun i hi => by
    rw [slot_set, ← View.set_slice_whole cc0_scratch0 (slotR j hj)] at hi
    obtain ⟨k, rfl⟩ := View.exists_emb_of_mem_set _ hi
    exact (View.write_emb_of_mem _ _ (Finset.mem_univ k)).trans (hw k)
  unfold slotP
  iintro H Hk
  iapply (wp_store 𝒱₀ (c : Thread nD τ) none Set.univ (m := bufM) (r := slotR j hj) (Mk := Finset.univ) hs) $$ H
  iintro H
  iapply Hk
  iapply (Entails.of_eq (pointsTo_congr hc)); iexact H

/-- The rectangle of 512 rows of the device's own block. -/
theorem rows_inb (o : ℕ) (ho : o ≤ 512) : ∀ a, (![o, 0] : Fin 2 → ℕ) a + S512x4096.size a ≤ S1024x4096.size a
  | ⟨0, _⟩ => by show o + 512 ≤ 1024; omega
  | ⟨1, _⟩ => by show 0 + 4096 ≤ 4096; omega
abbrev rowsR (o : ℕ) (ho : o ≤ 512 := by decide) : Rect S1024x4096 := Rect.unit (s := S1024x4096) ![o, 0] S512x4096.size (rows_inb o ho)

/-- Half `h` of the device's own block is what slot `h` gathers. -/
theorem own_half (c : Dev nD) (h : ℕ) (hh : h < 2) (o : ℕ) (ho : o ≤ 512) (he : o = 512 * h) (hj : h < 8) (k : S1x512x4096.Idx) :
    k0_pay1 (xM.view.readAt (Elt F) (rowsR o ho).toLoadRect (xstg m c)) k = gath m c ((bufM.access (slotR h hj)).emb k) := by
  unfold k0_pay1
  rw [shapeCast_self]
  refine (shapeCast_addUnit_apply ![512, 4096] _ _ k).trans ?_
  show xstg m c _ = _
  unfold gath
  have k0 : (k 0).val < 1 := (k 0).isLt
  have e0 : (((bufM.access (slotR h hj)).emb k : S8x512x4096.Idx) 0).val = h + 1 * (k 0).val := rfl
  have e1 : (((bufM.access (slotR h hj)).emb k : S8x512x4096.Idx) 1).val = 0 + 1 * (k 1).val := rfl
  have e2 : (((bufM.access (slotR h hj)).emb k : S8x512x4096.Idx) 2).val = 0 + 1 * (k 2).val := rfl
  have o0 : org c (((bufM.access (slotR h hj)).emb k : S8x512x4096.Idx) 0).val = c := by
    rw [e0]; unfold org; rw [if_pos (by omega)]
  rw [o0]
  refine congrArg (xstg m c) (Shape.idx_ext₂ ?_ ?_)
  · show o + 1 * (k 1).val = 512 * ((((bufM.access (slotR h hj)).emb k : S8x512x4096.Idx) 0).val % 2) + (((bufM.access (slotR h hj)).emb k : S8x512x4096.Idx) 1).val
    rw [e0, e1]; omega
  · show 0 + 1 * (k 2).val = (((bufM.access (slotR h hj)).emb k : S8x512x4096.Idx) 2).val
    rw [e2]

/-! ## The result -/

abbrev oneR : Rect S1 := Rect.unit (s := S1) ![0] S1.size inb_S1_S1_0

/-- The product of the two scales. -/
def scl (c : Dev nD) : F .f32 :=
  k0_pay3 ((sxM.access oneR).read (Elt F) (sxstg m c) (Shape.Idx.first (numel1_S1.symm ▸ Nat.one_pos)))
    ((swM.access oneR).read (Elt F) (swstg m c) (Shape.Idx.first (numel1_S1.symm ▸ Nat.one_pos)))

/-- Slot `j` and half slot `j`, `b` as loaded. -/
abbrev slotV (c : Dev nD) (j : Fin 8) : Vec F S1x512x4096 .fp8e4m3 := bufM.view.readAt (Elt F) (slotR j.val j.isLt).toLoadRect (gath m c)
theorem b_le (b : Fin 2) : 256 * b.val ≤ 256 := by have := b.isLt; omega
abbrev halfV (c : Dev nD) (j : Fin 8) (b : Fin 2) : Vec F S1x256x4096 .fp8e4m3 :=
  bufM.view.readAt (Elt F) (halfR j.val (256 * b.val) j.isLt (b_le b)).toLoadRect (gath m c)

/-- The slot holding half `h` of the block `d` devices to the right: its own, the right neighbour's, the diagonal
    device's, the left neighbour's. -/
def slotOf (d h : ℕ) : Fin 8 :=
  ⟨(if d = 0 then 0 else if d = 1 then 4 else if d = 2 then 6 else 2) + h % 2, by split_ifs <;> omega⟩

theorem slotOf_congr (d : ℕ) {h h' : ℕ} (e : h % 2 = h' % 2) : slotOf d h = slotOf d h' :=
  Fin.ext (congrArg (fun x => (if d = 0 then 0 else if d = 1 then 4 else if d = 2 then 6 else 2) + x) e)
theorem mod512 (r : ℕ) : r % 512 < 512 := Nat.mod_lt _ (by decide)
theorem mod256 (r : ℕ) : r % 256 < 256 := Nat.mod_lt _ (by decide)
theorem mod2 (r : ℕ) : r % 2 < 2 := Nat.mod_lt _ (by decide)

/-- Device `c`'s result: each row's tile from the slot (the diagonal device's rows: the half slot) holding that row. -/
def outFin (c : Dev nD) : (cc0_stg4_0 : Ref sig .tc).ty.Contents (Elt F) := fun (i : S4096x512.Idx) =>
  let r := (i 0).val
  let d := (r / 1024 + 4 - c.val) % 4
  if d = 2 then
    (k0_pay17 (scl m c) (halfV m c (slotOf 2 (r / 512)) ⟨r / 256 % 2, mod2 _⟩) (wstg m c) : S256x512.Idx → F .f32) (ix2 ⟨r % 256, mod256 _⟩ ⟨(i 1).val, (i 1).isLt⟩)
  else
    (k0_pay5 (scl m c) (slotV m c (slotOf d (r / 512))) (wstg m c) : S512x512.Idx → F .f32) (ix2 ⟨r % 512, mod512 _⟩ ⟨(i 1).val, (i 1).isLt⟩)

theorem org_rel : ∀ (c : Dev nD) (j : Fin 8), ((org c j.val).val + 4 - c.val) % 4 ≤ 3 ∧ slotOf (((org c j.val).val + 4 - c.val) % 4) j.val = j
    ∧ (((org c j.val).val + 4 - c.val) % 4 = 2 ↔ 6 ≤ j.val) := by decide

/-- Slot `j`'s tile of the result, -/
theorem tile_slot (c : Dev nD) (j : Fin 8) (hj : j.val < 6) (i : S4096x512.Idx) (k : S512x512.Idx)
    (h0 : (i 0).val = 1024 * (org c j.val).val + 512 * (j.val % 2) + (k 0).val) (h1 : (i 1).val = (k 1).val) :
    (k0_pay5 (scl m c) (slotV m c j) (wstg m c) : S512x512.Idx → F .f32) k = outFin m c i := by
  have hk : (k 0).val < 512 := (k 0).isLt
  obtain ⟨ha, hb, hc⟩ := org_rel c j
  have hd : (i 0).val / 1024 = (org c j.val).val := by omega
  have hh : (i 0).val / 512 % 2 = j.val % 2 := by omega
  have hs : slotOf (((org c j.val).val + 4 - c.val) % 4) ((i 0).val / 512) = j := by
    exact (slotOf_congr _ hh).trans hb
  unfold outFin
  dsimp only
  rw [hd, if_neg (fun h => by have := hc.mp h; omega), hs]
  refine congrArg (k0_pay5 (scl m c) (slotV m c j) (wstg m c) : S512x512.Idx → F .f32) (Shape.idx_ext₂ ?_ ?_)
  · show (k 0).val = (i 0).val % 512; omega
  · exact h1.symm

/-- and half slot `j`, `b`'s. -/
theorem tile_half (c : Dev nD) (j : Fin 8) (b : Fin 2) (hj : 6 ≤ j.val) (i : S4096x512.Idx) (k : S256x512.Idx)
    (h0 : (i 0).val = 1024 * (org c j.val).val + 512 * (j.val % 2) + 256 * b.val + (k 0).val) (h1 : (i 1).val = (k 1).val) :
    (k0_pay17 (scl m c) (halfV m c j b) (wstg m c) : S256x512.Idx → F .f32) k = outFin m c i := by
  have hk : (k 0).val < 256 := (k 0).isLt
  have hb2 : b.val < 2 := b.isLt
  obtain ⟨ha, hb, hc⟩ := org_rel c j
  have h2 : ((org c j.val).val + 4 - c.val) % 4 = 2 := hc.mpr hj
  have hd : (i 0).val / 1024 = (org c j.val).val := by omega
  have hh : (i 0).val / 512 % 2 = j.val % 2 := by omega
  have hs : slotOf 2 ((i 0).val / 512) = j := by
    rw [h2] at hb
    exact (slotOf_congr _ hh).trans hb
  have he : (⟨(i 0).val / 256 % 2, mod2 _⟩ : Fin 2) = b := Fin.ext (by show (i 0).val / 256 % 2 = b.val; omega)
  unfold outFin
  dsimp only
  rw [hd, if_pos h2, hs, he]
  refine congrArg (k0_pay17 (scl m c) (halfV m c j b) (wstg m c) : S256x512.Idx → F .f32) (Shape.idx_ext₂ ?_ ?_)
  · show (k 0).val = (i 0).val % 256; omega
  · exact h1.symm

/-! ## The result's tiles written so far -/

/-- The output window, at `outFin` on the row ranges `T` (first row, number of rows). -/
def outP (c : Dev nD) (T : List (ℕ × ℕ)) : sProp 𝕄 :=
  iprop(∃ f : Buf (Elt F) ((c : Thread nD τ).loc cc0_stg4_0),
    ⌜∀ p ∈ T, ∀ i : S4096x512.Idx, p.1 ≤ (i 0).val → (i 0).val < p.1 + p.2 → (f : S4096x512.Idx → Elt F .f32) i = outFin m c i⌝
      ∗ (((c : Thread nD τ).loc cc0_stg4_0) ↦{fullShare} f))

/-- A load of the output window, whose value the body drops. -/
theorem load_out (c : Dev nD) (T : List (ℕ × ℕ)) {r : LoadRect S4096x512} {hl : oM.view.LoadsAt r} {α : Type} {Q : α → sProp 𝕄}
    {k : (r.shape.Idx → Elt F .f32) → Prog (TpuEff nD τ sig (Elt F) Λ₀ .tc) α} :
    outP m c T ⊢ iprop((∀ v, outP m c T -∗ wp frame (wpE (defs₀ (F := F)) 𝒱₀ (c : Thread nD τ) none) Set.univ (k v) Q)
      -∗ wp frame (wpE (defs₀ (F := F)) 𝒱₀ (c : Thread nD τ) none) Set.univ (.op (.load oM r hl) k) Q) := by
  unfold outP
  iintro ⟨%f, %hf, H⟩ Hk
  iapply (wp_load 𝒱₀ (c : Thread nD τ) none Set.univ (m := oM) (Finset.subset_univ _)) $$ H
  iintro H
  iapply Hk
  iexists f
  isplitr; · ipureintro; exact hf
  iexact H

/-- A store of `n` rows from row `o` of the result. -/
theorem store_tile (c : Dev nD) (T : List (ℕ × ℕ)) (off : Fin 2 → ℕ) (n o : ℕ) (inb : ∀ a, off a + (![n, 512] : Fin 2 → ℕ) a ≤ S4096x512.size a)
    (hoff : off = ![o, 0]) (w : (Rect.unit (s := S4096x512) off ![n, 512] inb).shape.Idx → Elt F .f32)
    (hw : ∀ (k : (Rect.unit (s := S4096x512) off ![n, 512] inb).shape.Idx) (i : S4096x512.Idx), (i 0).val = o + (k 0).val → (i 1).val = (k 1).val → w k = outFin m c i)
    {hx : (oM.access (Rect.unit (s := S4096x512) off ![n, 512] inb)).Stores Finset.univ}
    {hm : (Finset.univ : Finset (Rect.unit (s := S4096x512) off ![n, 512] inb).shape.Idx) = Finset.univ ∨ ∀ a, (Rect.unit (s := S4096x512) off ![n, 512] inb).stride a = 1}
    {α : Type} {Q : α → sProp 𝕄} {k : PUnit → Prog (TpuEff nD τ sig (Elt F) Λ₀ .tc) α} :
    outP m c T ⊢ iprop((outP m c ((o, n) :: T) -∗ wp frame (wpE (defs₀ (F := F)) 𝒱₀ (c : Thread nD τ) none) Set.univ (k ⟨⟩) Q)
      -∗ wp frame (wpE (defs₀ (F := F)) 𝒱₀ (c : Thread nD τ) none) Set.univ
        (.op (.store oM (Rect.unit (s := S4096x512) off ![n, 512] inb) w Finset.univ hx hm) k) Q) := by
  subst hoff
  unfold outP
  iintro ⟨%f, %hf, H⟩ Hk
  iapply (wp_store 𝒱₀ (c : Thread nD τ) none Set.univ (m := oM) (r := Rect.unit (s := S4096x512) ![o, 0] ![n, 512] inb) (Mk := Finset.univ)
    (Finset.subset_univ _)) $$ H
  iintro H
  iapply Hk
  iexists _
  isplitr [H]
  swap
  · iexact H
  ipureintro
  have key : ∀ i : S4096x512.Idx, i ∈ (Rect.unit (s := S4096x512) ![o, 0] ![n, 512] inb).set →
      ((oM.access (Rect.unit (s := S4096x512) ![o, 0] ![n, 512] inb)).write (Elt F) f w Finset.univ : S4096x512.Idx → Elt F .f32) i = outFin m c i := fun i hi => by
    have hi' : i ∈ ((View.whole cc0_stg4_0).slice (Rect.unit (s := S4096x512) ![o, 0] ![n, 512] inb)).set := by rw [View.set_slice_whole]; exact hi
    obtain ⟨k, rfl⟩ := View.exists_emb_of_mem_set _ hi'
    refine (View.write_emb_of_mem _ _ (Finset.mem_univ k)).trans (hw k _ ?_ ?_)
    · show o + 1 * (k 0).val = o + (k 0).val; omega
    · show 0 + 1 * (k 1).val = (k 1).val; omega
  have hmem : ∀ i : S4096x512.Idx, i ∈ (Rect.unit (s := S4096x512) ![o, 0] ![n, 512] inb).set ↔ o ≤ (i 0).val ∧ (i 0).val < o + n := fun i => by
    rw [Rect.mem_set_unit]
    have h1 : (i 1).val < 512 := (i 1).isLt
    constructor
    · intro h; exact h 0
    · intro h a
      match a with
      | ⟨0, _⟩ => exact h
      | ⟨1, _⟩ => show 0 ≤ (i 1).val ∧ (i 1).val < 0 + 512; omega
  intro p hp i h1 h2
  by_cases hi : i ∈ (Rect.unit (s := S4096x512) ![o, 0] ![n, 512] inb).set
  · exact key i hi
  · rcases List.mem_cons.mp hp with rfl | hp
    · exact absurd ((hmem i).mpr ⟨h1, h2⟩) hi
    · refine Eq.trans ?_ (hf p hp i h1 h2)
      refine View.write_of_not_mem _ _ _ ?_
      rw [View.setOn_univ]
      have : ((View.whole cc0_stg4_0).slice (Rect.unit (s := S4096x512) ![o, 0] ![n, 512] inb)).set = _ := View.set_slice_whole _ _
      intro h'
      exact hi (by rw [← this]; exact h')

end Tiles

end Cert.RingProof

end
-- ==== Proof.Parts.lean ====
/-
The body, part by part (what each part needs; the barrier and the first copies).
-/
module

public import proofs.«01_k».proof.Proof.Tiles

@[expose] public section

noncomputable section

namespace Cert.RingProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Parts
variable (K : Dev nD × Fin 17 → ℕ)

/-- A part of the body, on the call's windows and scratch. -/
abbrev onBufs {T : Type 1} (p : (arg0 : Memref sig .tc .vmem S1024x4096 .fp8e4m3) → arg0.IsWhole → (arg1 : Memref sig .tc .vmem S4096x512 .fp8e5m2) → arg1.IsWhole
    → (arg2 : Memref sig .tc .smem S1 .f32) → arg2.IsWhole → (arg3 : Memref sig .tc .smem S1 .f32) → arg3.IsWhole
    → (arg4 : Memref sig .tc .vmem S4096x512 .f32) → arg4.IsWhole → (arg5 : Memref sig .tc .vmem S8x512x4096 .fp8e4m3) → arg5.IsWhole
    → (arg6 : Memref sig .tc .vmem S4096x512 .fp8e5m2) → arg6.IsWhole → DmaSems sig S8 → DmaSems sig S8 → T) : T :=
  p xM (Memref.isWhole_whole _) wM (Memref.isWhole_whole _) sxM (Memref.isWhole_whole _) swM (Memref.isWhole_whole _)
    oM (Memref.isWhole_whole _) bufM (Memref.isWhole_whole _) wbM (Memref.isWhole_whole _) cc0_scratch2 cc0_scratch3

/-- The weights buffer, once filled. -/
def wbP (c : Dev nD) : sProp 𝕄 := iprop(((c : Thread nD τ).loc cc0_scratch1) ↦{fullShare} (wstg m c : Buf (Elt F) ((c : Thread nD τ).loc cc0_scratch1)))
/-- The four inputs' staging buffers. -/
def xP (c : Dev nD) : sProp 𝕄 := iprop(((c : Thread nD τ).loc cc0_stg0_0) ↦{fullShare} (xstg m c : Buf (Elt F) ((c : Thread nD τ).loc cc0_stg0_0)))
def wP (c : Dev nD) : sProp 𝕄 := iprop(((c : Thread nD τ).loc cc0_stg1_0) ↦{fullShare} (wstg m c : Buf (Elt F) ((c : Thread nD τ).loc cc0_stg1_0)))
def sxP (c : Dev nD) : sProp 𝕄 := iprop(((c : Thread nD τ).loc cc0_stg2_0) ↦{fullShare} (sxstg m c : Buf (Elt F) ((c : Thread nD τ).loc cc0_stg2_0)))
def swP (c : Dev nD) : sProp 𝕄 := iprop(((c : Thread nD τ).loc cc0_stg3_0) ↦{fullShare} (swstg m c : Buf (Elt F) ((c : Thread nD τ).loc cc0_stg3_0)))

/-- A load of the whole weights buffer. -/
theorem load_wb (c : Dev nD) {hl : wbM.view.LoadsAt (Rect.unit (s := S4096x512) ![0, 0] S4096x512.size inb_S4096x512_S4096x512_0_0).toLoadRect} {α : Type} {Q : α → sProp 𝕄}
    {k : Vec F S4096x512 .fp8e5m2 → Prog (TpuEff nD τ sig (Elt F) Λ₀ .tc) α} :
    wbP m c ⊢ iprop((wbP m c -∗ wp frame (wpE (defs₀ (F := F)) 𝒱₀ (c : Thread nD τ) none) Set.univ (k (wstg m c)) Q)
      -∗ wp frame (wpE (defs₀ (F := F)) 𝒱₀ (c : Thread nD τ) none) Set.univ
        (.op (.load wbM (Rect.unit (s := S4096x512) ![0, 0] S4096x512.size inb_S4096x512_S4096x512_0_0).toLoadRect hl) k) Q) := by
  have hz : (![0, 0] : Fin 2 → ℕ) = fun _ => 0 := by funext i; match i with | 0 => rfl | 1 => rfl
  have e : wbM.view.readAt (Elt F) (Rect.unit (s := S4096x512) ![0, 0] S4096x512.size inb_S4096x512_S4096x512_0_0).toLoadRect (wstg m c) = wstg m c :=
    Memref.readAt_unit_zero (Elt F) cc0_scratch1 hz _ (wstg m c)
  unfold wbP
  iintro H Hk
  iapply (wp_load 𝒱₀ (c : Thread nD τ) none Set.univ (m := wbM) (Finset.subset_univ _)) $$ H
  iintro H
  rw [e]
  iapply Hk; iexact H

/-- Each copy goes from a slot to the target's slot for the same half of the same block. -/
theorem ship : ∀ c : Dev nD, org c 0 = org (tgt c 0) 2 ∧ org c 1 = org (tgt c 1) 5 ∧ org c 1 = org (tgt c 2) 3 ∧ org c 0 = org (tgt c 3) 4
    ∧ org c 2 = org (tgt c 4) 6 ∧ org c 2 = org (tgt c 5) 6 ∧ org c 5 = org (tgt c 6) 7 ∧ org c 5 = org (tgt c 7) 7 := by decide

/-- Part 3: both halves of the own block set off to the right and left neighbours. -/
theorem part3 (c : Dev nD) (v13 v24 : BitVec 32) (f2 f5 f3 : Buf (Elt F) ((c : Thread nD τ).loc cc0_scratch0))  (Kt : PUnit → sProp 𝕄) :
    iprop(known m K ∗ slotP c 0 (by decide) fullShare.left (gath m c) ∗ slotP c 1 (by decide) fullShare.left (gath m c)
        ∗ slotP c 1 (by decide) fullShare.right.left (gath m c)
        ∗ slotP (nxt c) 2 (by decide) fullShare f2 ∗ slotP (nxt c) 3 (by decide) fullShare f3 ∗ slotP (prv c) 5 (by decide) fullShare f5
        ∗ owesE c (rem c 8)
        ∗ dutyTok ER (sndCell c 0) 0 false ∗ dutyTok ER (rcvCell (nxt c) 0) 0 false
        ∗ dutyTok ER (sndCell c 1) 0 false ∗ dutyTok ER (rcvCell (prv c) 3) 0 false
        ∗ dutyTok ER (sndCell c 2) 0 false ∗ dutyTok ER (rcvCell (nxt c) 1) 0 false)
      ⊢ iprop(((cred (tallyAt (sndCell c 0) () NF) ∗ cred (tallyAt (sndCell c 1) () NF) ∗ cred (tallyAt (sndCell c 2) () NF)
            ∗ owesE c (rem c 5)) -∗ Kt ⟨⟩)
          -∗ wp frame (wpE (defs₀ (F := F)) 𝒱₀ (c : Thread nD τ) none) Set.univ (onBufs (k0_part3 (F := F)) c v13 v24) Kt) := by
  unfold onBufs
  simp only [k0_part3_eq_skeleton]; unfold k0_part3_skel
  simp only [Prog.lift, Prog.bind_op, Prog.bind_ret, Prog.pure_eq_ret]
  iintro ⟨#HK, Ha, Hb, Hb', H2, H3, H5, HO, T0, R0, T1, R1, T2, R2⟩ Hk
  iapply (send_slot m K c _ 0 0 7 0 2 (by decide) (by decide) fullShare.left rfl (by decide) (dev3_eq c) rfl rfl rfl (ship c).1 rfl (by decide) f2)
    $$ [Ha H2 HO T0 R0]
  · iframe HK Ha H2 HO T0 R0
  iintro ⟨C0, HO⟩
  iapply (send_slot m K c _ 1 3 6 1 5 (by decide) (by decide) fullShare.left rfl (by decide) (dev4_eq c) rfl rfl rfl (ship c).2.1 rfl (by decide) f5)
    $$ [Hb H5 HO T1 R1]
  · iframe HK Hb H5 HO T1 R1
  iintro ⟨C1, HO⟩
  iapply (send_slot m K c _ 2 1 5 1 3 (by decide) (by decide) fullShare.right.left rfl (by decide) (dev5_eq c) rfl rfl rfl (ship c).2.2.1 rfl (by decide) f3)
    $$ [Hb' H3 HO T2 R2]
  · iframe HK Hb' H3 HO T2 R2
  iintro ⟨C2, HO⟩
  simp only [wp_ret]
  imodintro
  iapply Hk
  iframe C0 C1 C2 HO

/-! ## Where the tiles lie -/

/-- The first row of slot `j`'s tile of the result, or of its half from row `lo`. -/
def row (c : Dev nD) (j lo : ℕ) : ℕ := 1024 * (org c j).val + 512 * (j % 2) + lo

theorem off_own : ∀ c : Dev nD, k0_off1 c 0#32 = ![row c 0 0, 0] ∧ k0_off1 c 512#32 = ![row c 1 0, 0] := by decide
theorem off_left : ∀ c : Dev nD, k0_off2 c 0#32 = ![row c 2 0, 0] ∧ k0_off2 c 512#32 = ![row c 3 0, 0] := by decide
theorem off_right : ∀ c : Dev nD, k0_off3 c 0#32 = ![row c 4 0, 0] ∧ k0_off3 c 512#32 = ![row c 5 0, 0] := by decide
theorem off_far : ∀ c : Dev nD, k0_off4 c 0#32 0#32 = ![row c 6 0, 0] ∧ k0_off4 c 512#32 0#32 = ![row c 7 0, 0]
    ∧ k0_off4 c 0#32 256#32 = ![row c 6 256, 0] ∧ k0_off4 c 512#32 256#32 = ![row c 7 256, 0] := by decide

theorem tile_at (c : Dev nD) (j : Fin 8) (hj : j.val < 6) (k : S512x512.Idx) (i : S4096x512.Idx) (h0 : (i 0).val = row c j.val 0 + (k 0).val) (h1 : (i 1).val = (k 1).val) :
    (k0_pay5 (scl m c) (slotV m c j) (wstg m c) : S512x512.Idx → F .f32) k = outFin m c i :=
  tile_slot m c j hj i k (by rw [h0]; rfl) h1
theorem half_at (c : Dev nD) (j : Fin 8) (b : Fin 2) (hj : 6 ≤ j.val) (k : S256x512.Idx) (i : S4096x512.Idx)
    (h0 : (i 0).val = row c j.val (256 * b.val) + (k 0).val) (h1 : (i 1).val = (k 1).val) :
    (k0_pay17 (scl m c) (halfV m c j b) (wstg m c) : S256x512.Idx → F .f32) k = outFin m c i :=
  tile_half m c j b hj i k (by rw [h0]; rfl) h1

/-- The window filled with the weights. -/
theorem fill_wb (c : Dev nD) (f : Buf (Elt F) ((c : Thread nD τ).loc cc0_scratch1)) (w : Vec F S4096x512 .fp8e5m2) (hw : w = wstg m c)
    {hx : (wbM.access (Rect.unit (s := S4096x512) ![0, 0] S4096x512.size inb_S4096x512_S4096x512_0_0)).Stores Finset.univ}
    {hm : (Finset.univ : Finset (Rect.unit (s := S4096x512) ![0, 0] S4096x512.size inb_S4096x512_S4096x512_0_0).shape.Idx) = Finset.univ
      ∨ ∀ a, (Rect.unit (s := S4096x512) ![0, 0] S4096x512.size inb_S4096x512_S4096x512_0_0).stride a = 1}
    {α : Type} {Q : α → sProp 𝕄} {k : PUnit → Prog (TpuEff nD τ sig (Elt F) Λ₀ .tc) α} :
    iprop(((c : Thread nD τ).loc cc0_scratch1) ↦{fullShare} f) ⊢ iprop((wbP m c -∗ wp frame (wpE (defs₀ (F := F)) 𝒱₀ (c : Thread nD τ) none) Set.univ (k ⟨⟩) Q)
      -∗ wp frame (wpE (defs₀ (F := F)) 𝒱₀ (c : Thread nD τ) none) Set.univ
        (.op (.store wbM (Rect.unit (s := S4096x512) ![0, 0] S4096x512.size inb_S4096x512_S4096x512_0_0) w Finset.univ hx hm) k) Q) := by
  subst hw
  have hz : (![0, 0] : Fin 2 → ℕ) = fun _ => 0 := by funext i; match i with | 0 => rfl | 1 => rfl
  have e : (wbM.access (Rect.unit (s := S4096x512) ![0, 0] S4096x512.size inb_S4096x512_S4096x512_0_0)).write (Elt F) f (wstg m c) Finset.univ = wstg m c :=
    Memref.write_access_unit_zero_univ (Elt F) cc0_scratch1 hz _ f (wstg m c)
  unfold wbP
  iintro H Hk
  iapply (wp_store 𝒱₀ (c : Thread nD τ) none Set.univ (m := wbM) (r := Rect.unit (s := S4096x512) ![0, 0] S4096x512.size inb_S4096x512_S4096x512_0_0)
    (Mk := Finset.univ) (Finset.subset_univ _)) $$ H
  iintro H
  rw [e]
  iapply Hk; iexact H

/-- A load of the whole weights window. -/
theorem load_w (c : Dev nD) {hl : wM.view.LoadsAt (Rect.unit (s := S4096x512) ![0, 0] S4096x512.size inb_S4096x512_S4096x512_0_0).toLoadRect} {α : Type} {Q : α → sProp 𝕄}
    {k : Vec F S4096x512 .fp8e5m2 → Prog (TpuEff nD τ sig (Elt F) Λ₀ .tc) α} :
    wP m c ⊢ iprop((wP m c -∗ wp frame (wpE (defs₀ (F := F)) 𝒱₀ (c : Thread nD τ) none) Set.univ (k (wstg m c)) Q)
      -∗ wp frame (wpE (defs₀ (F := F)) 𝒱₀ (c : Thread nD τ) none) Set.univ
        (.op (.load wM (Rect.unit (s := S4096x512) ![0, 0] S4096x512.size inb_S4096x512_S4096x512_0_0).toLoadRect hl) k) Q) := by
  have hz : (![0, 0] : Fin 2 → ℕ) = fun _ => 0 := by funext i; match i with | 0 => rfl | 1 => rfl
  have e : wM.view.readAt (Elt F) (Rect.unit (s := S4096x512) ![0, 0] S4096x512.size inb_S4096x512_S4096x512_0_0).toLoadRect (wstg m c) = wstg m c :=
    Memref.readAt_unit_zero (Elt F) cc0_stg1_0 hz _ (wstg m c)
  unfold wP
  iintro H Hk
  iapply (wp_load 𝒱₀ (c : Thread nD τ) none Set.univ (m := wM) (Finset.subset_univ _)) $$ H
  iintro H
  rw [e]
  iapply Hk; iexact H

theorem pay4_eq (w : Vec F S4096x512 .fp8e5m2) : k0_pay4 w = w :=
  (shapeCast_self _ _).trans (shapeCast_self _ _)

/-- Part 2: the own block copied into slots 0 and 1, the barrier with both neighbours, the two scales read. -/
theorem part2 (c : Dev nD) (v13 v24 : BitVec 32) (f : Buf (Elt F) ((c : Thread nD τ).loc cc0_scratch0)) (Kt : F .f32 → sProp 𝕄) :
    iprop(known m K ∗ xP m c ∗ sxP m c ∗ swP m c ∗ slotP c 0 (by decide) fullShare f ∗ slotP c 1 (by decide) fullShare f
        ∗ slotP c 2 (by decide) fullShare f ∗ slotP c 3 (by decide) fullShare f ∗ slotP c 4 (by decide) fullShare f
        ∗ slotP c 5 (by decide) fullShare f ∗ slotP c 6 (by decide) fullShare f ∗ slotP c 7 (by decide) fullShare f
        ∗ owesE c (O₀ c) ∗ dutyTok ER (barCell (prv c)) 0 true ∗ dutyTok ER (barCell (nxt c)) 0 false
        ∗ cred (tallyAt (barCell c) () 2) ∗ atPos ER (barCell c) 0 ∅ 0)
      ⊢ iprop(((xP m c ∗ sxP m c ∗ swP m c ∗ slotP c 0 (by decide) fullShare (gath m c) ∗ slotP c 1 (by decide) fullShare (gath m c)
            ∗ barF c ∗ barT c ∗ owesE c (rem c 8) ∗ semVal (barCell c) 0) -∗ Kt (scl m c))
          -∗ wp frame (wpE (defs₀ (F := F)) 𝒱₀ (c : Thread nD τ) none) Set.univ (onBufs (k0_part2 (F := F)) c v13 v24) Kt) := by
  unfold onBufs
  simp only [k0_part2_eq_skeleton]; unfold k0_part2_skel
  simp only [semSignalWord, semWaitWord, smemLoad, smemLoadElt, Prog.lift, Prog.bind_op, Prog.bind_ret, Prog.pure_eq_ret, Prog.bind_assoc]
  simp only [dev1_eq c, dev2_eq c]
  have hT : iprop(slotP c 2 (by decide) fullShare f ∗ slotP c 3 (by decide) fullShare f ∗ slotP c 6 (by decide) fullShare f)
      ⊢ (gatherRd m).payload (barCell (prv c)) 0 true := by
    show _ ⊢ barT (prv c)
    unfold barT; rw [nxt_prv]
    iintro H; iexists f; iexact H
  have hF : iprop(slotP c 4 (by decide) fullShare f ∗ slotP c 5 (by decide) fullShare f ∗ slotP c 7 (by decide) fullShare f)
      ⊢ (gatherRd m).payload (barCell (nxt c)) 0 false := by
    show _ ⊢ barF (nxt c)
    unfold barF; rw [prv_nxt]
    iintro H; iexists f; iexact H
  unfold scl
  iintro ⟨#HK, Hx, Hsx, Hsw, H0, H1, H2, H3, H4, H5, H6, H7, HO, Tt, Tf, HC, Hat⟩ Hk
  unfold xP
  iapply (wp_load 𝒱₀ (c : Thread nD τ) none Set.univ (m := xM) (Finset.subset_univ _)) $$ Hx
  iintro Hx
  iapply (load_slot c 0 _ fullShare f) $$ H0
  iintro H0
  iapply (store_slot m c 0 _ f _ (own_half m c 0 (by decide) 0 (by decide) rfl _)) $$ H0
  iintro H0
  iapply (wp_load 𝒱₀ (c : Thread nD τ) none Set.univ (m := xM) (Finset.subset_univ _)) $$ Hx
  iintro Hx
  iapply (load_slot c 1 _ fullShare f) $$ H1
  iintro H1
  iapply (store_slot m c 1 _ f _ (own_half m c 1 (by decide) 512 (by decide) rfl _)) $$ H1
  iintro H1
  -- the signal to the left neighbour: slots 2, 3 and 6 handed over
  unfold known
  icases HK with ⟨#HR, #HL⟩
  unfold owesE
  icases HO with ⟨%W, HO⟩
  ihave #HIp := (inv_at m K (prv c, 0) (cellAt_bar (prv c))) $$ HR
  ihave #HIn := (inv_at m K (nxt c, 0) (cellAt_bar (nxt c))) $$ HR
  ihave #HIc := (inv_at m K (c, 0) (cellAt_bar c)) $$ HR
  ihave #HRp := (reached_at m K (prv c, 0) (cellAt_bar (prv c))) $$ HR
  ihave #HRn := (reached_at m K (nxt c, 0) (cellAt_bar (nxt c))) $$ HR
  iapply (Rounds.wp_signal 𝒱₀ ER (gatherRd m) (c : Thread nD τ) none (dst := (prv c : Thread nD τ)) (κ := K (prv c, 0)) (r := 0)
      (d := true) (by rw [duties_bar]; exact Finset.mem_univ _) (rfl : (1 : ℕ) = (1#32).toNat) () (O₁ c) rfl) $$ [HO Tt H2 H3 H6]
  · isplitr; · iexact HIp
    isplitl [HO]; · iexact HO
    isplitl [Tt]; · iexact Tt
    isplitl [H2 H3 H6]
    · iapply hT
      iframe H2 H3 H6
    · iexact HRp
  iintro HO
  -- and to the right neighbour: slots 4, 5 and 7
  iapply (Rounds.wp_signal 𝒱₀ ER (gatherRd m) (c : Thread nD τ) none (dst := (nxt c : Thread nD τ)) (κ := K (nxt c, 0)) (r := 0)
      (d := false) (by rw [duties_bar]; exact Finset.mem_univ _) (rfl : (1 : ℕ) = (1#32).toNat) () (rem c 8) rfl) $$ [HO Tf H4 H5 H7]
  · isplitr; · iexact HIn
    isplitl [HO]; · iexact HO
    isplitl [Tf]; · iexact Tf
    isplitl [H4 H5 H7]
    · iapply hF
      iframe H4 H5 H7
    · iexact HRn
  iintro HO
  -- the wait for both neighbours' units
  iapply (Rounds.wp_wait_rest_token 𝒱₀ ER (gatherRd m) (c : Thread nD τ) none (κ := K (c, 0))
      (wpE_semWait_eq 𝒱₀ (c : Thread nD τ) none Set.univ) (Set.mem_univ _) () (O := rem c 8) (W := W) (R := 0) (m := 0) (T := ∅)
      (by rw [expect_bar]; rfl)) $$ [HC HO Hat]
  · isplitr; · iexact HIc
    isplitl [HC]; · iexact HC
    isplitl [HO]; · iexact HO
    isplitr; · iapply (mayWait_bar c); iexact HL
    iexact Hat
  iintro ⟨HO, Hat, -, Hpay⟩
  ihave Hp := (Entails.of_eq (rest_bar m c)) $$ Hpay
  icases Hp with ⟨HbF, HbT⟩
  imod (Rounds.cell_close ER (gatherRd m) (Set.mem_univ (K (c, 0))) (fun h => h) (R := 0 + 1) (duties_over m _)) $$ [Hat] with Hz
  · isplitr; · iexact HIc
    iexact Hat
  -- the scales
  unfold sxP swP
  iapply (wp_load_rect 𝒱₀ (c : Thread nD τ) none Set.univ (m := sxM) (r := oneR) (Finset.subset_univ _)) $$ Hsx
  iintro Hsx
  iapply (wp_load_rect 𝒱₀ (c : Thread nD τ) none Set.univ (m := swM) (r := oneR) (Finset.subset_univ _)) $$ Hsw
  iintro Hsw
  simp only [wp_ret]
  imodintro
  iapply Hk
  iframe Hx Hsx Hsw H0 H1 HbF HbT Hz
  iexists _; iexact HO

end Parts

end Cert.RingProof

end
-- ==== Proof.Relay.lean ====
/-
The body, part by part (the copies passed on).
-/
module

public import proofs.«01_k».proof.Proof.Parts

@[expose] public section

noncomputable section

namespace Cert.RingProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Parts
variable (K : Dev nD × Fin 17 → ℕ)

/-- Part 4: the last copy of the own block set off; the weights moved to their buffer; the tile of the own first half. -/
theorem part4 (c : Dev nD) (v2 : BitVec 32) (f4 : Buf (Elt F) ((c : Thread nD τ).loc cc0_scratch0)) (fb : Buf (Elt F) ((c : Thread nD τ).loc cc0_scratch1))
    (T : List (ℕ × ℕ)) (Kt : (Σ' (_ : FVec F S512x512 .f32), BitVec 32) → sProp 𝕄) :
    iprop(known m K ∗ slotP c 0 (by decide) fullShare.right.left (gath m c) ∗ slotP c 0 (by decide) fullShare.right.right (gath m c)
        ∗ slotP c 1 (by decide) fullShare.right.right (gath m c) ∗ slotP (prv c) 4 (by decide) fullShare f4 ∗ owesE c (rem c 5)
        ∗ dutyTok ER (sndCell c 3) 0 false ∗ dutyTok ER (rcvCell (prv c) 2) 0 false
        ∗ wP m c ∗ (((c : Thread nD τ).loc cc0_scratch1) ↦{fullShare} fb) ∗ outP m c T)
      ⊢ iprop(((cred (tallyAt (sndCell c 3) () NF) ∗ owesE c (rem c 4) ∗ slotP c 0 (by decide) fullShare.right.right (gath m c)
            ∗ slotP c 1 (by decide) fullShare.right.right (gath m c) ∗ wP m c ∗ wbP m c ∗ outP m c ((row c 0 0, 512) :: T))
              -∗ Kt ⟨k0_pay6 (scl m c) (slotV m c 1) (wstg m c), 1024#32⟩)
          -∗ wp frame (wpE (defs₀ (F := F)) 𝒱₀ (c : Thread nD τ) none) Set.univ (onBufs (k0_part4 (F := F)) c v2 (scl m c)) Kt) := by
  unfold onBufs
  simp only [k0_part4_eq_skeleton]; unfold k0_part4_skel
  simp only [Prog.lift, Prog.bind_op, Prog.bind_ret, Prog.pure_eq_ret]
  rw [show slotV m c 1 = (View.whole cc0_scratch0).readAt (Elt F) (slotR 1).toLoadRect (gath m c) from rfl]
  iintro ⟨#HK, Ha, H0, H1, H4, HO, T3, R3, Hw, Hb, Ho⟩ Hk
  iapply (send_slot m K c _ 3 2 4 0 4 _ _ fullShare.right.left rfl (by decide) (dev6_eq c) rfl rfl rfl (ship c).2.2.2.1 rfl (by decide) f4)
    $$ [Ha H4 HO T3 R3]
  · iframe HK Ha H4 HO T3 R3
  iintro ⟨C3, HO⟩
  iapply (load_w m c) $$ Hw
  iintro Hw
  iapply (wp_load 𝒱₀ (c : Thread nD τ) none Set.univ (m := wbM) (Finset.subset_univ _)) $$ Hb
  iintro Hb
  iapply (fill_wb m c fb _ (pay4_eq _)) $$ Hb
  iintro Hb
  iapply (load_slot c 0 _ fullShare.right.right (gath m c)) $$ H0
  iintro H0
  iapply (load_wb m c) $$ Hb
  iintro Hb
  iapply (load_out m c T) $$ Ho
  iintro %_ Ho
  iapply (store_tile m c T _ 512 (row c 0 0) _ (off_own c).1 _ (tile_at m c 0 (by decide))) $$ Ho
  iintro Ho
  iapply (load_slot c 1 _ fullShare.right.right (gath m c)) $$ H1
  iintro H1
  iapply (load_wb m c) $$ Hb
  iintro Hb
  simp only [wp_ret]
  imodintro
  iapply Hk
  iframe C3 HO H0 H1 Hw Hb Ho

/-- A whole slot that landed: half of its share to be lent out as two halves, the other kept. -/
theorem relay (c : Dev nD) (j : ℕ) (hj : j < 8) :
    slotP c j hj fullShare (gath m c) ⊢ iprop(halfP c j 0 hj (by decide) fullShare.left (gath m c) ∗ halfP c j 256 hj (by decide) fullShare.left (gath m c)
      ∗ slotP c j hj fullShare.right (gath m c)) := by
  iintro H
  ihave H := (slot_share c j hj fullShare (gath m c)).1 $$ H
  icases H with ⟨Hl, Hr⟩
  ihave Hl := (slot_halves c j hj fullShare.left (gath m c)).1 $$ Hl
  icases Hl with ⟨Ha, Hb⟩
  iframe Ha Hb Hr

/-- Part 5: the tile of the own second half; the left neighbour's first half has arrived, and its first rows go on to the right. -/
theorem part5 (c : Dev nD) (v2 v13 v24 v : BitVec 32) (f6 : Buf (Elt F) ((c : Thread nD τ).loc cc0_scratch0)) (T : List (ℕ × ℕ)) (Kt : PUnit → sProp 𝕄) :
    iprop(known m K ∗ outP m c T ∗ owesE c (rem c 4)
        ∗ cred (tallyAt (rcvCell c 0) () NF) ∗ atPos ER (rcvCell c 0) 0 ∅ 0
        ∗ halfP (nxt c) 6 0 (by decide) (by decide) fullShare f6 ∗ dutyTok ER (sndCell c 4) 0 false ∗ dutyTok ER (rcvCell (nxt c) 4) 0 false)
      ⊢ iprop(((outP m c ((row c 1 0, 512) :: T) ∗ owesE c (rem c 3) ∗ semVal (rcvCell c 0) 0
            ∗ halfP c 2 256 (by decide) (by decide) fullShare.left (gath m c) ∗ slotP c 2 (by decide) fullShare.right (gath m c)
            ∗ cred (tallyAt (sndCell c 4) () NH)) -∗ Kt ⟨⟩)
          -∗ wp frame (wpE (defs₀ (F := F)) 𝒱₀ (c : Thread nD τ) none) Set.univ
            (onBufs (k0_part5 (F := F)) c v2 v13 v24 (k0_pay6 (scl m c) (slotV m c 1) (wstg m c)) v) Kt) := by
  unfold onBufs
  simp only [k0_part5_eq_skeleton]; unfold k0_part5_skel
  simp only [Prog.lift, Prog.bind_op, Prog.bind_ret, Prog.pure_eq_ret]
  iintro ⟨#HK, Ho, HO, C, Hat, H6, T4, R4⟩ Hk
  iapply (load_out m c T) $$ Ho
  iintro %_ Ho
  iapply (store_tile m c T _ 512 (row c 1 0) _ (off_own c).2 _ (tile_at m c 1 (by decide))) $$ Ho
  iintro Ho
  iapply (wait_rcv m K c 0 (rem c 4) (mayWait_rcv c 0 (by decide) 4 (by decide)) ((slot_credit 2 (by decide)).trans (amt_full (by decide)).symm)) $$ [C HO Hat]
  · iframe HK C HO Hat
  iintro ⟨HO, Hz, Hp⟩
  ihave H := ((Entails.of_eq (show rcvPay m c (0 : Fin 8).val = slotP c 2 (by decide) fullShare (gath m c) from rfl)).trans (relay m c 2 (by decide))) $$ Hp
  icases H with ⟨Ha, Hb, Hr⟩
  iapply (send_half m K c _ 4 4 3 2 6 0 _ _ _ fullShare.left rfl (by decide) (dev7_eq c) rfl rfl rfl (ship c).2.2.2.2.1 rfl (by decide) f6)
    $$ [Ha H6 HO T4 R4]
  · iframe HK Ha H6 HO T4 R4
  iintro ⟨C4, HO⟩
  simp only [wp_ret]
  imodintro
  iapply Hk
  iframe Ho HO Hz Hb Hr C4

/-- Part 6: its last rows go on; the right neighbour's second half has arrived, and its first rows go on to the left. -/
theorem part6 (c : Dev nD) (v13 v24 : BitVec 32) (f6 f7 : Buf (Elt F) ((c : Thread nD τ).loc cc0_scratch0)) (Kt : PUnit → sProp 𝕄) :
    iprop(known m K ∗ owesE c (rem c 3)
        ∗ halfP c 2 256 (by decide) (by decide) fullShare.left (gath m c) ∗ halfP (nxt c) 6 256 (by decide) (by decide) fullShare f6
        ∗ dutyTok ER (sndCell c 5) 0 false ∗ dutyTok ER (rcvCell (nxt c) 5) 0 false
        ∗ cred (tallyAt (rcvCell c 3) () NF) ∗ atPos ER (rcvCell c 3) 0 ∅ 0
        ∗ halfP (prv c) 7 0 (by decide) (by decide) fullShare f7
        ∗ dutyTok ER (sndCell c 6) 0 false ∗ dutyTok ER (rcvCell (prv c) 6) 0 false)
      ⊢ iprop(((owesE c (rem c 1) ∗ cred (tallyAt (sndCell c 5) () NH) ∗ cred (tallyAt (sndCell c 6) () NH) ∗ semVal (rcvCell c 3) 0
            ∗ halfP c 5 256 (by decide) (by decide) fullShare.left (gath m c) ∗ slotP c 5 (by decide) fullShare.right (gath m c)) -∗ Kt ⟨⟩)
          -∗ wp frame (wpE (defs₀ (F := F)) 𝒱₀ (c : Thread nD τ) none) Set.univ (onBufs (k0_part6 (F := F)) c v13 v24) Kt) := by
  unfold onBufs
  simp only [k0_part6_eq_skeleton]; unfold k0_part6_skel
  simp only [Prog.lift, Prog.bind_op, Prog.bind_ret, Prog.pure_eq_ret]
  iintro ⟨#HK, HO, Ha, H6, T5, R5, C, Hat, H7, T6, R6⟩ Hk
  iapply (send_half m K c _ 5 5 2 2 6 256 _ _ _ fullShare.left rfl (by decide) (dev8_eq c) rfl rfl rfl (ship c).2.2.2.2.2.1 rfl (by decide) f6)
    $$ [Ha H6 HO T5 R5]
  · iframe HK Ha H6 HO T5 R5
  iintro ⟨C5, HO⟩
  iapply (wait_rcv m K c 3 (rem c 2) (mayWait_rcv c 3 (by decide) 2 (by decide)) ((slot_credit 5 (by decide)).trans (amt_full (by decide)).symm)) $$ [C HO Hat]
  · iframe HK C HO Hat
  iintro ⟨HO, Hz, Hp⟩
  ihave H := ((Entails.of_eq (show rcvPay m c (3 : Fin 8).val = slotP c 5 (by decide) fullShare (gath m c) from rfl)).trans (relay m c 5 (by decide))) $$ Hp
  icases H with ⟨Ha, Hb, Hr⟩
  iapply (send_half m K c _ 6 6 1 5 7 0 _ _ _ fullShare.left rfl (by decide) (dev9_eq c) rfl rfl rfl (ship c).2.2.2.2.2.2.1 rfl (by decide) f7)
    $$ [Ha H7 HO T6 R6]
  · iframe HK Ha H7 HO T6 R6
  iintro ⟨C6, HO⟩
  simp only [wp_ret]
  imodintro
  iapply Hk
  iframe HO C5 C6 Hz Hb Hr

/-- Part 7: its last rows go on; the tile of the left neighbour's first half. -/
theorem part7 (c : Dev nD) (v13 : BitVec 32) (f7 : Buf (Elt F) ((c : Thread nD τ).loc cc0_scratch0)) (T : List (ℕ × ℕ))
    (Kt : (Σ' (_ : FVec F S512x512 .f32), FVec F S512x512 .f32) → sProp 𝕄) :
    iprop(known m K ∗ owesE c (rem c 1)
        ∗ halfP c 5 256 (by decide) (by decide) fullShare.left (gath m c) ∗ halfP (prv c) 7 256 (by decide) (by decide) fullShare f7
        ∗ dutyTok ER (sndCell c 7) 0 false ∗ dutyTok ER (rcvCell (prv c) 7) 0 false
        ∗ slotP c 2 (by decide) fullShare.right (gath m c) ∗ slotP c 5 (by decide) fullShare.right (gath m c) ∗ wbP m c ∗ outP m c T)
      ⊢ iprop(((owesE c (rem c 0) ∗ cred (tallyAt (sndCell c 7) () NH) ∗ slotP c 2 (by decide) fullShare.right (gath m c)
            ∗ slotP c 5 (by decide) fullShare.right (gath m c) ∗ wbP m c ∗ outP m c ((row c 2 0, 512) :: T))
              -∗ Kt ⟨k0_pay9 (slotV m c 5) (wstg m c), k0_pay10 (scl m c)⟩)
          -∗ wp frame (wpE (defs₀ (F := F)) 𝒱₀ (c : Thread nD τ) none) Set.univ (onBufs (k0_part7 (F := F)) c v13 (scl m c)) Kt) := by
  unfold onBufs
  simp only [k0_part7_eq_skeleton]; unfold k0_part7_skel
  simp only [Prog.lift, Prog.bind_op, Prog.bind_ret, Prog.pure_eq_ret]
  rw [show slotV m c 5 = (View.whole cc0_scratch0).readAt (Elt F) (slotR 5).toLoadRect (gath m c) from rfl]
  iintro ⟨#HK, HO, Ha, H7, T7, R7, H2, H5, Hb, Ho⟩ Hk
  iapply (send_half m K c _ 7 7 0 5 7 256 _ _ _ fullShare.left rfl (by decide) (dev10_eq c) rfl rfl rfl (ship c).2.2.2.2.2.2.2 rfl (by decide) f7)
    $$ [Ha H7 HO T7 R7]
  · iframe HK Ha H7 HO T7 R7
  iintro ⟨C7, HO⟩
  iapply (load_slot c 2 _ fullShare.right (gath m c)) $$ H2
  iintro H2
  iapply (load_wb m c) $$ Hb
  iintro Hb
  iapply (load_out m c T) $$ Ho
  iintro %_ Ho
  iapply (store_tile m c T _ 512 (row c 2 0) _ (off_left c).1 _ (tile_at m c 2 (by decide))) $$ Ho
  iintro Ho
  iapply (load_slot c 5 _ fullShare.right (gath m c)) $$ H5
  iintro H5
  iapply (load_wb m c) $$ Hb
  iintro Hb
  simp only [wp_ret]
  imodintro
  iapply Hk
  iframe HO C7 H2 H5 Hb Ho

end Parts

end Cert.RingProof

end
-- ==== Proof.Drain.lean ====
/-
The body, part by part (the arrivals and the last waits).
-/
module

public import proofs.«01_k».proof.Proof.Relay

@[expose] public section

noncomputable section

namespace Cert.RingProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Parts
variable (K : Dev nD × Fin 17 → ℕ)

/-- With nothing owed every wait is allowed. -/
theorem mayWait_done (c : Dev nD) (k : Fin 8) : (levAts L lv : sProp 𝕄) ⊢ MayWait (c : Thread nD τ) (.dma (rcvS k)) () (rem c 0) := by
  rw [show rem c 0 = 0 from rfl, MayWait_zero]; iintro -; iempintro

/-- Part 8: the tile of the right neighbour's second half; the left neighbour's second half and the right neighbour's first have arrived. -/
theorem part8 (c : Dev nD) (v13 v24 : BitVec 32) (T : List (ℕ × ℕ)) (Kt : PUnit → sProp 𝕄) :
    iprop(known m K ∗ outP m c T ∗ owesE c (rem c 0)
        ∗ cred (tallyAt (rcvCell c 1) () NF) ∗ atPos ER (rcvCell c 1) 0 ∅ 0 ∗ cred (tallyAt (rcvCell c 2) () NF) ∗ atPos ER (rcvCell c 2) 0 ∅ 0)
      ⊢ iprop(((outP m c ((row c 5 0, 512) :: T) ∗ owesE c (rem c 0) ∗ semVal (rcvCell c 1) 0 ∗ semVal (rcvCell c 2) 0
            ∗ slotP c 3 (by decide) fullShare (gath m c) ∗ slotP c 4 (by decide) fullShare (gath m c)) -∗ Kt ⟨⟩)
          -∗ wp frame (wpE (defs₀ (F := F)) 𝒱₀ (c : Thread nD τ) none) Set.univ
            (onBufs (k0_part8 (F := F)) c v13 v24 (k0_pay9 (slotV m c 5) (wstg m c)) (k0_pay10 (scl m c))) Kt) := by
  unfold onBufs
  simp only [k0_part8_eq_skeleton]; unfold k0_part8_skel
  simp only [Prog.lift, Prog.bind_op, Prog.bind_ret, Prog.pure_eq_ret]
  iintro ⟨#HK, Ho, HO, C1, A1, C2, A2⟩ Hk
  iapply (load_out m c T) $$ Ho
  iintro %_ Ho
  iapply (store_tile m c T _ 512 (row c 5 0) _ (off_right c).2 _ (tile_at m c 5 (by decide))) $$ Ho
  iintro Ho
  iapply (wait_rcv m K c 1 (rem c 0) (mayWait_done c 1) ((slot_credit 3 (by decide)).trans (amt_full (by decide)).symm)) $$ [C1 HO A1]
  · iframe HK C1 HO A1
  iintro ⟨HO, Hz1, Hp⟩
  ihave H3 := (Entails.of_eq (show rcvPay m c (1 : Fin 8).val = slotP c 3 (by decide) fullShare (gath m c) from rfl)) $$ Hp
  iapply (wait_rcv m K c 2 (rem c 0) (mayWait_done c 2) ((slot_credit 4 (by decide)).trans (amt_full (by decide)).symm)) $$ [C2 HO A2]
  · iframe HK C2 HO A2
  iintro ⟨HO, Hz2, Hp⟩
  ihave H4 := (Entails.of_eq (show rcvPay m c (2 : Fin 8).val = slotP c 4 (by decide) fullShare (gath m c) from rfl)) $$ Hp
  simp only [wp_ret]
  imodintro
  iapply Hk
  iframe Ho HO Hz1 Hz2 H3 H4

/-- Part 9: their two tiles. -/
theorem part9 (c : Dev nD) (v13 v24 : BitVec 32) (T : List (ℕ × ℕ)) (Kt : PUnit → sProp 𝕄) :
    iprop(slotP c 3 (by decide) fullShare (gath m c) ∗ slotP c 4 (by decide) fullShare (gath m c) ∗ wbP m c ∗ outP m c T)
      ⊢ iprop(((slotP c 3 (by decide) fullShare (gath m c) ∗ slotP c 4 (by decide) fullShare (gath m c) ∗ wbP m c
            ∗ outP m c ((row c 4 0, 512) :: (row c 3 0, 512) :: T)) -∗ Kt ⟨⟩)
          -∗ wp frame (wpE (defs₀ (F := F)) 𝒱₀ (c : Thread nD τ) none) Set.univ (onBufs (k0_part9 (F := F)) c v13 v24 (scl m c)) Kt) := by
  unfold onBufs
  simp only [k0_part9_eq_skeleton]; unfold k0_part9_skel
  simp only [Prog.lift, Prog.bind_op, Prog.bind_ret, Prog.pure_eq_ret]
  iintro ⟨H3, H4, Hb, Ho⟩ Hk
  iapply (load_slot c 3 _ fullShare (gath m c)) $$ H3
  iintro H3
  iapply (load_wb m c) $$ Hb
  iintro Hb
  iapply (load_out m c T) $$ Ho
  iintro %_ Ho
  iapply (store_tile m c T _ 512 (row c 3 0) _ (off_left c).2 _ (tile_at m c 3 (by decide))) $$ Ho
  iintro Ho
  iapply (load_slot c 4 _ fullShare (gath m c)) $$ H4
  iintro H4
  iapply (load_wb m c) $$ Hb
  iintro Hb
  iapply (load_out m c _) $$ Ho
  iintro %_ Ho
  iapply (store_tile m c _ _ 512 (row c 4 0) _ (off_right c).1 _ (tile_at m c 4 (by decide))) $$ Ho
  iintro Ho
  simp only [wp_ret]
  imodintro
  iapply Hk
  iframe H3 H4 Hb Ho

/-- Part 10: the first rows of both halves of the diagonal device's block have arrived. -/
theorem part10 (c : Dev nD) (v13 v35 : BitVec 32) (Kt : (Σ' (_ : FVec F S256x512 .f32) (_ : BitVec 32), FVec F S256x512 .f32) → sProp 𝕄) :
    iprop(known m K ∗ owesE c (rem c 0)
        ∗ cred (tallyAt (rcvCell c 4) () NH) ∗ atPos ER (rcvCell c 4) 0 ∅ 0 ∗ cred (tallyAt (rcvCell c 6) () NH) ∗ atPos ER (rcvCell c 6) 0 ∅ 0 ∗ wbP m c)
      ⊢ iprop((∀ v, (owesE c (rem c 0) ∗ semVal (rcvCell c 4) 0 ∗ semVal (rcvCell c 6) 0
            ∗ halfP c 6 0 (by decide) (by decide) fullShare (gath m c) ∗ halfP c 7 0 (by decide) (by decide) fullShare (gath m c) ∗ wbP m c)
              -∗ Kt ⟨k0_pay14 (scl m c) (halfV m c 6 0) (wstg m c), v, k0_pay15 (scl m c) (halfV m c 6 0) (wstg m c)⟩)
          -∗ wp frame (wpE (defs₀ (F := F)) 𝒱₀ (c : Thread nD τ) none) Set.univ (onBufs (k0_part10 (F := F)) v13 v35 (scl m c)) Kt) := by
  unfold onBufs
  simp only [k0_part10_eq_skeleton]; unfold k0_part10_skel
  simp only [Prog.lift, Prog.bind_op, Prog.bind_ret, Prog.pure_eq_ret]
  rw [show halfV m c 6 0 = (View.whole cc0_scratch0).readAt (Elt F) (halfR 6 0).toLoadRect (gath m c) from rfl]
  iintro ⟨#HK, HO, C4, A4, C6, A6, Hb⟩ Hk
  iapply (wait_rcv m K c 4 (rem c 0) (mayWait_done c 4) ((half_credit 6 0 (by decide) (by decide)).trans (amt_half (by decide)).symm)) $$ [C4 HO A4]
  · iframe HK C4 HO A4
  iintro ⟨HO, Hz4, Hp⟩
  ihave H6 := (Entails.of_eq (show rcvPay m c (4 : Fin 8).val = halfP c 6 0 (by decide) (by decide) fullShare (gath m c) from rfl)) $$ Hp
  iapply (wait_rcv m K c 6 (rem c 0) (mayWait_done c 6) ((half_credit 7 0 (by decide) (by decide)).trans (amt_half (by decide)).symm)) $$ [C6 HO A6]
  · iframe HK C6 HO A6
  iintro ⟨HO, Hz6, Hp⟩
  ihave H7 := (Entails.of_eq (show rcvPay m c (6 : Fin 8).val = halfP c 7 0 (by decide) (by decide) fullShare (gath m c) from rfl)) $$ Hp
  iapply (load_half c 6 0 _ _ fullShare (gath m c)) $$ H6
  iintro H6
  iapply (load_wb m c) $$ Hb
  iintro Hb
  simp only [wp_ret]
  imodintro
  iapply Hk
  iframe HO Hz4 Hz6 H6 H7 Hb

/-- Part 11: their two tiles; the last rows of the first half have arrived. -/
theorem part11 (c : Dev nD) (v13 v35 v : BitVec 32) (T : List (ℕ × ℕ)) (Kt : BitVec 32 → sProp 𝕄) :
    iprop(known m K ∗ owesE c (rem c 0) ∗ outP m c T ∗ halfP c 7 0 (by decide) (by decide) fullShare (gath m c) ∗ wbP m c
        ∗ cred (tallyAt (rcvCell c 5) () NH) ∗ atPos ER (rcvCell c 5) 0 ∅ 0)
      ⊢ iprop((∀ v, (owesE c (rem c 0) ∗ outP m c ((row c 7 0, 256) :: (row c 6 0, 256) :: T)
            ∗ halfP c 7 0 (by decide) (by decide) fullShare (gath m c) ∗ wbP m c ∗ semVal (rcvCell c 5) 0
            ∗ halfP c 6 256 (by decide) (by decide) fullShare (gath m c)) -∗ Kt v)
          -∗ wp frame (wpE (defs₀ (F := F)) 𝒱₀ (c : Thread nD τ) none) Set.univ
            (onBufs (k0_part11 (F := F)) c v13 v35 (scl m c) (k0_pay14 (scl m c) (halfV m c 6 0) (wstg m c)) v
              (k0_pay15 (scl m c) (halfV m c 6 0) (wstg m c))) Kt) := by
  unfold onBufs
  simp only [k0_part11_eq_skeleton]; unfold k0_part11_skel
  simp only [Prog.lift, Prog.bind_op, Prog.bind_ret, Prog.pure_eq_ret]
  iintro ⟨#HK, HO, Ho, H7, Hb, C5, A5⟩ Hk
  iapply (load_out m c T) $$ Ho
  iintro %_ Ho
  iapply (store_tile m c T _ 256 (row c 6 0) _ (off_far c).1 _ (half_at m c 6 0 (by decide))) $$ Ho
  iintro Ho
  iapply (load_half c 7 0 _ _ fullShare (gath m c)) $$ H7
  iintro H7
  iapply (load_wb m c) $$ Hb
  iintro Hb
  iapply (load_out m c _) $$ Ho
  iintro %_ Ho
  iapply (store_tile m c _ _ 256 (row c 7 0) _ (off_far c).2.1 _ (half_at m c 7 0 (by decide))) $$ Ho
  iintro Ho
  iapply (wait_rcv m K c 5 (rem c 0) (mayWait_done c 5) ((half_credit 6 256 (by decide) (by decide)).trans (amt_half (by decide)).symm)) $$ [C5 HO A5]
  · iframe HK C5 HO A5
  iintro ⟨HO, Hz5, Hp⟩
  ihave H6 := (Entails.of_eq (show rcvPay m c (5 : Fin 8).val = halfP c 6 256 (by decide) (by decide) fullShare (gath m c) from rfl)) $$ Hp
  simp only [wp_ret]
  imodintro
  iapply Hk
  iframe HO Ho H7 Hb Hz5 H6

/-- Part 12: the last rows of the second half too; the first of their two tiles. -/
theorem part12 (c : Dev nD) (v35 v : BitVec 32) (T : List (ℕ × ℕ)) (Kt : (Σ' (_ : FVec F S256x512 .f32) (_ : BitVec 32), BitVec 32) → sProp 𝕄) :
    iprop(known m K ∗ owesE c (rem c 0) ∗ outP m c T ∗ halfP c 6 256 (by decide) (by decide) fullShare (gath m c) ∗ wbP m c
        ∗ cred (tallyAt (rcvCell c 7) () NH) ∗ atPos ER (rcvCell c 7) 0 ∅ 0)
      ⊢ iprop((∀ v v', (owesE c (rem c 0) ∗ outP m c ((row c 6 256, 256) :: T)
            ∗ halfP c 6 256 (by decide) (by decide) fullShare (gath m c) ∗ wbP m c ∗ semVal (rcvCell c 7) 0
            ∗ halfP c 7 256 (by decide) (by decide) fullShare (gath m c)) -∗ Kt ⟨k0_pay19 (scl m c) (halfV m c 7 1) (wstg m c), v, v'⟩)
          -∗ wp frame (wpE (defs₀ (F := F)) 𝒱₀ (c : Thread nD τ) none) Set.univ (onBufs (k0_part12 (F := F)) c v35 (scl m c) v) Kt) := by
  unfold onBufs
  simp only [k0_part12_eq_skeleton]; unfold k0_part12_skel
  simp only [Prog.lift, Prog.bind_op, Prog.bind_ret, Prog.pure_eq_ret]
  rw [show halfV m c 7 1 = (View.whole cc0_scratch0).readAt (Elt F) (halfR 7 256).toLoadRect (gath m c) from rfl]
  iintro ⟨#HK, HO, Ho, H6, Hb, C7, A7⟩ Hk
  iapply (wait_rcv m K c 7 (rem c 0) (mayWait_done c 7) ((half_credit 7 256 (by decide) (by decide)).trans (amt_half (by decide)).symm)) $$ [C7 HO A7]
  · iframe HK C7 HO A7
  iintro ⟨HO, Hz7, Hp⟩
  ihave H7 := (Entails.of_eq (show rcvPay m c (7 : Fin 8).val = halfP c 7 256 (by decide) (by decide) fullShare (gath m c) from rfl)) $$ Hp
  iapply (load_half c 6 256 _ _ fullShare (gath m c)) $$ H6
  iintro H6
  iapply (load_wb m c) $$ Hb
  iintro Hb
  iapply (load_out m c T) $$ Ho
  iintro %_ Ho
  iapply (store_tile m c T _ 256 (row c 6 256) _ (off_far c).2.2.1 _ (half_at m c 6 1 (by decide))) $$ Ho
  iintro Ho
  iapply (load_half c 7 256 _ _ fullShare (gath m c)) $$ H7
  iintro H7
  iapply (load_wb m c) $$ Hb
  iintro Hb
  simp only [wp_ret]
  imodintro
  iapply Hk
  iframe HO Ho H6 Hb Hz7 H7

/-- Part 13: the last tile; the first two copies' reads are over. -/
theorem part13 (c : Dev nD) (v v' : BitVec 32) (T : List (ℕ × ℕ)) (Kt : PUnit → sProp 𝕄) :
    iprop(known m K ∗ owesE c (rem c 0) ∗ outP m c T
        ∗ cred (tallyAt (sndCell c 0) () NF) ∗ atPos ER (sndCell c 0) 0 ∅ 0 ∗ cred (tallyAt (sndCell c 1) () NF) ∗ atPos ER (sndCell c 1) 0 ∅ 0)
      ⊢ iprop(((owesE c (rem c 0) ∗ outP m c ((row c 7 256, 256) :: T) ∗ semVal (sndCell c 0) 0 ∗ semVal (sndCell c 1) 0
            ∗ slotP c 0 (by decide) fullShare.left (gath m c) ∗ slotP c 1 (by decide) fullShare.left (gath m c)) -∗ Kt ⟨⟩)
          -∗ wp frame (wpE (defs₀ (F := F)) 𝒱₀ (c : Thread nD τ) none) Set.univ
            (onBufs (k0_part13 (F := F)) c (k0_pay19 (scl m c) (halfV m c 7 1) (wstg m c)) v v') Kt) := by
  unfold onBufs
  simp only [k0_part13_eq_skeleton]; unfold k0_part13_skel
  simp only [Prog.lift, Prog.bind_op, Prog.bind_ret, Prog.pure_eq_ret]
  iintro ⟨#HK, HO, Ho, C0, A0, C1, A1⟩ Hk
  iapply (load_out m c T) $$ Ho
  iintro %_ Ho
  iapply (store_tile m c T _ 256 (row c 7 256) _ (off_far c).2.2.2 _ (half_at m c 7 1 (by decide))) $$ Ho
  iintro Ho
  iapply (wait_snd m K c 0 ((slot_credit 0 (by decide)).trans (amt_full (by decide)).symm)) $$ [C0 HO A0]
  · iframe HK C0 HO A0
  iintro ⟨HO, Hz0, Hp⟩
  ihave H0 := (Entails.of_eq (show sndPay m c (0 : Fin 8).val = slotP c 0 (by decide) fullShare.left (gath m c) from rfl)) $$ Hp
  iapply (wait_snd m K c 1 ((slot_credit 1 (by decide)).trans (amt_full (by decide)).symm)) $$ [C1 HO A1]
  · iframe HK C1 HO A1
  iintro ⟨HO, Hz1, Hp⟩
  ihave H1 := (Entails.of_eq (show sndPay m c (1 : Fin 8).val = slotP c 1 (by decide) fullShare.left (gath m c) from rfl)) $$ Hp
  simp only [wp_ret]
  imodintro
  iapply Hk
  iframe HO Ho Hz0 Hz1 H0 H1

/-- Part 14: and the next four's. -/
theorem part14 (c : Dev nD) (Kt : PUnit → sProp 𝕄) :
    iprop(known m K ∗ owesE c (rem c 0)
        ∗ cred (tallyAt (sndCell c 2) () NF) ∗ atPos ER (sndCell c 2) 0 ∅ 0 ∗ cred (tallyAt (sndCell c 3) () NF) ∗ atPos ER (sndCell c 3) 0 ∅ 0
        ∗ cred (tallyAt (sndCell c 4) () NH) ∗ atPos ER (sndCell c 4) 0 ∅ 0 ∗ cred (tallyAt (sndCell c 5) () NH) ∗ atPos ER (sndCell c 5) 0 ∅ 0)
      ⊢ iprop(((owesE c (rem c 0) ∗ semVal (sndCell c 2) 0 ∗ semVal (sndCell c 3) 0 ∗ semVal (sndCell c 4) 0 ∗ semVal (sndCell c 5) 0
            ∗ slotP c 1 (by decide) fullShare.right.left (gath m c) ∗ slotP c 0 (by decide) fullShare.right.left (gath m c)
            ∗ halfP c 2 0 (by decide) (by decide) fullShare.left (gath m c) ∗ halfP c 2 256 (by decide) (by decide) fullShare.left (gath m c)) -∗ Kt ⟨⟩)
          -∗ wp frame (wpE (defs₀ (F := F)) 𝒱₀ (c : Thread nD τ) none) Set.univ (onBufs (k0_part14 (F := F))) Kt) := by
  unfold onBufs
  simp only [k0_part14_eq_skeleton]; unfold k0_part14_skel
  simp only [Prog.lift, Prog.bind_op, Prog.bind_ret, Prog.pure_eq_ret]
  iintro ⟨#HK, HO, C2, A2, C3, A3, C4, A4, C5, A5⟩ Hk
  iapply (wait_snd m K c 2 ((slot_credit 1 (by decide)).trans (amt_full (by decide)).symm)) $$ [C2 HO A2]
  · iframe HK C2 HO A2
  iintro ⟨HO, Hz2, Hp⟩
  ihave H1 := (Entails.of_eq (show sndPay m c (2 : Fin 8).val = slotP c 1 (by decide) fullShare.right.left (gath m c) from rfl)) $$ Hp
  iapply (wait_snd m K c 3 ((slot_credit 0 (by decide)).trans (amt_full (by decide)).symm)) $$ [C3 HO A3]
  · iframe HK C3 HO A3
  iintro ⟨HO, Hz3, Hp⟩
  ihave H0 := (Entails.of_eq (show sndPay m c (3 : Fin 8).val = slotP c 0 (by decide) fullShare.right.left (gath m c) from rfl)) $$ Hp
  iapply (wait_snd m K c 4 ((half_credit 2 0 (by decide) (by decide)).trans (amt_half (by decide)).symm)) $$ [C4 HO A4]
  · iframe HK C4 HO A4
  iintro ⟨HO, Hz4, Hp⟩
  ihave H2 := (Entails.of_eq (show sndPay m c (4 : Fin 8).val = halfP c 2 0 (by decide) (by decide) fullShare.left (gath m c) from rfl)) $$ Hp
  iapply (wait_snd m K c 5 ((half_credit 2 256 (by decide) (by decide)).trans (amt_half (by decide)).symm)) $$ [C5 HO A5]
  · iframe HK C5 HO A5
  iintro ⟨HO, Hz5, Hp⟩
  ihave H2' := (Entails.of_eq (show sndPay m c (5 : Fin 8).val = halfP c 2 256 (by decide) (by decide) fullShare.left (gath m c) from rfl)) $$ Hp
  simp only [wp_ret]
  imodintro
  iapply Hk
  iframe HO Hz2 Hz3 Hz4 Hz5 H1 H0 H2 H2'

end Parts

end Cert.RingProof

end
-- ==== Proof.Body.lean ====
/-
The whole body: the parts in order, from what each device starts with to the result's window filled.
-/
module

public import proofs.«01_k».proof.Proof.Drain

@[expose] public section

noncomputable section

namespace Cert.RingProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What each device starts with -/

omit [FloatOps F] in
theorem fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem fin17 (Φ : Fin 17 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

/-- Its position at each of its cells, -/
def posP (c : Dev nD) : sProp 𝕄 := bigSep Finset.univ fun k : Fin 17 => atPos ER (cellAt (c, k)) 0 ∅ 0
/-- its duties on the neighbours' barrier cells, and each copy's on its send and receive cells, -/
def toksP (c : Dev nD) : sProp 𝕄 :=
  iprop(dutyTok ER (barCell (prv c)) 0 true ∗ dutyTok ER (barCell (nxt c)) 0 false
    ∗ (bigSep Finset.univ fun t : Fin 8 => dutyTok ER (sndCell c t) 0 false)
    ∗ bigSep Finset.univ fun t : Fin 8 => dutyTok ER (rcvCell (tgt c t.val) (rix t.val)) 0 false)
/-- and the right to wait for two units on its barrier cell and for each copy to it. -/
def credsP (c : Dev nD) : sProp 𝕄 :=
  iprop(cred (tallyAt (barCell c) () 2) ∗ bigSep Finset.univ fun k : Fin 8 => cred (tallyAt (rcvCell c k) () (amt k.val)))

def scrP (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

def ghost (K : Dev nD × Fin 17 → ℕ) (c : Dev nD) : sProp 𝕄 := iprop(records m K ∗ posP c ∗ toksP c)
def start (c : Dev nD) : sProp 𝕄 := iprop((∃ K, ghost m K c) ∗ credsP c ∗ levAts L lv)

def Φ₀ (c : Dev nD) : sProp 𝕄 := iprop(start m c ∗ scrP c)
def Φ₁ (c : Dev nD) : sProp 𝕄 := iprop(scrP c ∗ bigSep Finset.univ fun k : Fin 17 => semVal (cellAt (c, k)) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => sxstg m c
    | ⟨3, _⟩ => swstg m c
    | ⟨4, _⟩ => outFin m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The whole result -/

/-- The tiles stored, last first. -/
def tiles (c : Dev nD) : List (ℕ × ℕ) :=
  [(row c 7 256, 256), (row c 6 256, 256), (row c 7 0, 256), (row c 6 0, 256), (row c 4 0, 512), (row c 3 0, 512), (row c 5 0, 512),
    (row c 2 0, 512), (row c 1 0, 512), (row c 0 0, 512)]

/-- They cover every row. -/
theorem tiles_cover : ∀ (c : Dev nD) (q : Fin 16), ∃ p ∈ tiles c, p.1 ≤ 256 * q.val ∧ 256 * q.val + 256 ≤ p.1 + p.2 := by decide

theorem out_done (c : Dev nD) : outP m c (tiles c) ⊢ stg c cc0_stg4_0 (outFin m c) := by
  unfold outP
  iintro ⟨%f, %h, H⟩
  iexists f
  isplitr
  · ipureintro
    funext i
    have hi : ((i : S4096x512.Idx) 0).val < 4096 := (i 0).isLt
    obtain ⟨p, hp, h1, h2⟩ := tiles_cover c ⟨((i : S4096x512.Idx) 0).val / 256, by omega⟩
    have h1' : p.1 ≤ 256 * (((i : S4096x512.Idx) 0).val / 256) := h1
    have h2' : 256 * (((i : S4096x512.Idx) 0).val / 256) + 256 ≤ p.1 + p.2 := h2
    exact h p hp i (by omega) (by omega)
  · iexact H

omit [FloatOps F] in
/-- Nothing is stored yet. -/
theorem out_start [FloatOps F] (c : Dev nD) (f : Buf (Elt F) ((c : Thread nD τ).loc cc0_stg4_0)) :
    (((c : Thread nD τ).loc cc0_stg4_0) ↦{fullShare} f : sProp 𝕄) ⊢ outP m c [] := by
  unfold outP
  iintro H
  iexists f
  isplitr
  · ipureintro; intro p hp; exact absurd hp List.not_mem_nil
  · iexact H

/-! ## The shares of the slots -/

omit [FloatOps F] in
/-- A slot lent to two copies and read here meanwhile: three shares. -/
theorem slot_three (c : Dev nD) (j : ℕ) (hj : j < 8) (f : Buf (Elt F) ((c : Thread nD τ).loc cc0_scratch0)) :
    (slotP c j hj fullShare f : sProp 𝕄)
      ⊣⊢ iprop(slotP c j hj fullShare.left f ∗ slotP c j hj fullShare.right.left f ∗ slotP c j hj fullShare.right.right f) := by
  constructor
  · iintro H
    ihave H := (slot_share c j hj fullShare f).1 $$ H
    icases H with ⟨Hl, Hr⟩
    ihave Hr := (slot_share c j hj fullShare.right f).1 $$ Hr
    icases Hr with ⟨Ha, Hb⟩
    iframe Hl Ha Hb
  · iintro ⟨Hl, Ha, Hb⟩
    iapply (slot_share c j hj fullShare f).2
    isplitl [Hl]; · iexact Hl
    iapply (slot_share c j hj fullShare.right f).2
    iframe Ha Hb

omit [FloatOps F] in
/-- A relayed slot is whole again once both halves' copies are over. -/
theorem slot_back (c : Dev nD) (j : ℕ) (hj : j < 8) (f : Buf (Elt F) ((c : Thread nD τ).loc cc0_scratch0)) :
    iprop(halfP c j 0 hj (by decide) fullShare.left f ∗ halfP c j 256 hj (by decide) fullShare.left f ∗ slotP c j hj fullShare.right f : sProp 𝕄)
      ⊢ slotP c j hj fullShare f := by
  iintro ⟨Ha, Hb, Hr⟩
  iapply (slot_share c j hj fullShare f).2
  isplitr [Hr]
  · iapply (slot_halves c j hj fullShare.left f).2
    iframe Ha Hb
  · iexact Hr

omit [FloatOps F] in
/-- The eight slots are the whole buffer again. -/
theorem buf_back (c : Dev nD) (f : Buf (Elt F) ((c : Thread nD τ).loc cc0_scratch0)) :
    iprop(slotP c 0 (by decide) fullShare f ∗ slotP c 1 (by decide) fullShare f ∗ slotP c 2 (by decide) fullShare f ∗ slotP c 3 (by decide) fullShare f
        ∗ slotP c 4 (by decide) fullShare f ∗ slotP c 5 (by decide) fullShare f ∗ slotP c 6 (by decide) fullShare f ∗ slotP c 7 (by decide) fullShare f : sProp 𝕄)
      = (((c : Thread nD τ).loc cc0_scratch0) ↦{fullShare} f) := by
  rw [buf_slots, fin8]; rfl

/-! ## The body -/

section Body
variable (K : Dev nD × Fin 17 → ℕ)

/-- Part 1: the device reads its id. -/
theorem part1 (c : Dev nD) (Kt : (Σ' (_ : Dev nD) (_ : BitVec 32) (_ : BitVec 32) (_ : BitVec 32), BitVec 32) → sProp 𝕄) :
    iprop(∀ v2 v13 v24 v35, Kt ⟨c, v2, v13, v24, v35⟩)
      ⊢ wp frame (wpE (defs₀ (F := F)) 𝒱₀ (c : Thread nD τ) none) Set.univ (onBufs (k0_part1 (F := F))) Kt := by
  unfold onBufs
  simp only [k0_part1_eq_skeleton]; unfold k0_part1_skel
  simp only [Prog.lift, Prog.bind_op, Prog.bind_ret, Prog.pure_eq_ret, wp_deviceId]
  iintro H
  simp only [wp_ret]
  imodintro
  iapply H

/-- The last two waits. -/
theorem tail (c : Dev nD) (Q : PUnit → sProp 𝕄) {h1 h2 h3 h4} :
    iprop(known m K ∗ owesE c (rem c 0)
        ∗ cred (tallyAt (sndCell c 6) () NH) ∗ atPos ER (sndCell c 6) 0 ∅ 0 ∗ cred (tallyAt (sndCell c 7) () NH) ∗ atPos ER (sndCell c 7) 0 ∅ 0)
      ⊢ iprop(((owesE c (rem c 0) ∗ semVal (sndCell c 6) 0 ∗ semVal (sndCell c 7) 0
            ∗ halfP c 5 0 (by decide) (by decide) fullShare.left (gath m c) ∗ halfP c 5 256 (by decide) (by decide) fullShare.left (gath m c)) -∗ Q ⟨⟩)
          -∗ wp frame (wpE (defs₀ (F := F)) 𝒱₀ (c : Thread nD τ) none) Set.univ
            (Prog.lift (.waitDma2 (sndS 6) (halfM 7 0 (by decide) (by decide)) (halfM 5 0 (by decide) (by decide)) h1 h2))
            fun _ => wp frame (wpE (defs₀ (F := F)) 𝒱₀ (c : Thread nD τ) none) Set.univ
              (Prog.lift (.waitDma2 (sndS 7) (halfM 7 256 (by decide) (by decide)) (halfM 5 256 (by decide) (by decide)) h3 h4))
              fun _ => wp frame (wpE (defs₀ (F := F)) 𝒱₀ (c : Thread nD τ) none) Set.univ (pure ⟨⟩) Q) := by
  simp only [Prog.lift, Prog.pure_eq_ret]
  iintro ⟨#HK, HO, C6, A6, C7, A7⟩ Hk
  iapply (wait_snd m K c 6 ((half_credit 5 0 _ _).trans (amt_half (by decide)).symm)) $$ [C6 HO A6]
  · iframe HK C6 HO A6
  iintro ⟨HO, Hz6, Hp⟩
  ihave H5 := (Entails.of_eq (show sndPay m c (6 : Fin 8).val = halfP c 5 0 (by decide) (by decide) fullShare.left (gath m c) from rfl)) $$ Hp
  simp only [wp_ret]
  imodintro
  iapply (wait_snd m K c 7 ((half_credit 5 256 _ _).trans (amt_half (by decide)).symm)) $$ [C7 HO A7]
  · iframe HK C7 HO A7
  iintro ⟨HO, Hz7, Hp⟩
  ihave H5' := (Entails.of_eq (show sndPay m c (7 : Fin 8).val = halfP c 5 256 (by decide) (by decide) fullShare.left (gath m c) from rfl)) $$ Hp
  simp only [wp_ret]
  imodintro
  imodintro
  iapply Hk
  iframe HO Hz6 Hz7 H5 H5'

omit [FloatOps F] in
/-- Each group of what a device starts with, spelt out. -/
theorem pos_list (c : Dev nD) :
    (posP c : sProp 𝕄) ⊢ iprop(atPos ER (barCell c) 0 ∅ 0 ∗ (atPos ER (sndCell c 0) 0 ∅ 0 ∗ atPos ER (sndCell c 1) 0 ∅ 0 ∗ atPos ER (sndCell c 2) 0 ∅ 0
        ∗ atPos ER (sndCell c 3) 0 ∅ 0 ∗ atPos ER (sndCell c 4) 0 ∅ 0 ∗ atPos ER (sndCell c 5) 0 ∅ 0 ∗ atPos ER (sndCell c 6) 0 ∅ 0 ∗ atPos ER (sndCell c 7) 0 ∅ 0)
      ∗ atPos ER (rcvCell c 0) 0 ∅ 0 ∗ atPos ER (rcvCell c 1) 0 ∅ 0 ∗ atPos ER (rcvCell c 2) 0 ∅ 0
        ∗ atPos ER (rcvCell c 3) 0 ∅ 0 ∗ atPos ER (rcvCell c 4) 0 ∅ 0 ∗ atPos ER (rcvCell c 5) 0 ∅ 0 ∗ atPos ER (rcvCell c 6) 0 ∅ 0 ∗ atPos ER (rcvCell c 7) 0 ∅ 0) := by
  unfold posP; rw [fin17]
  iintro ⟨B, S0, S1, S2, S3, S4, S5, S6, S7, R0, R1, R2, R3, R4, R5, R6, R7⟩
  iframe B S0 S1 S2 S3 S4 S5 S6 S7 R0 R1 R2 R3 R4 R5 R6 R7

omit [FloatOps F] in
theorem sem_list (c : Dev nD) :
    iprop(semVal (barCell c) 0 ∗ (semVal (sndCell c 0) 0 ∗ semVal (sndCell c 1) 0 ∗ semVal (sndCell c 2) 0
        ∗ semVal (sndCell c 3) 0 ∗ semVal (sndCell c 4) 0 ∗ semVal (sndCell c 5) 0 ∗ semVal (sndCell c 6) 0 ∗ semVal (sndCell c 7) 0)
      ∗ semVal (rcvCell c 0) 0 ∗ semVal (rcvCell c 1) 0 ∗ semVal (rcvCell c 2) 0
        ∗ semVal (rcvCell c 3) 0 ∗ semVal (rcvCell c 4) 0 ∗ semVal (rcvCell c 5) 0 ∗ semVal (rcvCell c 6) 0 ∗ semVal (rcvCell c 7) 0 : sProp 𝕄)
      ⊢ bigSep Finset.univ fun k : Fin 17 => semVal (cellAt (c, k)) 0 := by
  rw [fin17]
  iintro ⟨B, ⟨S0, S1, S2, S3, S4, S5, S6, S7⟩, R0, R1, R2, R3, R4, R5, R6, R7⟩
  isplitl [B]; · iexact B
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [R0]; · iexact R0
  isplitl [R1]; · iexact R1
  isplitl [R2]; · iexact R2
  isplitl [R3]; · iexact R3
  isplitl [R4]; · iexact R4
  isplitl [R5]; · iexact R5
  isplitl [R6]; · iexact R6
  iexact R7

/-- The body: from the staged inputs, the scratch buffers and what the device starts with, the result's window filled. -/
theorem sound_body (c : Dev nD) (f0 : Buf (Elt F) ((c : Thread nD τ).loc cc0_scratch0)) (fb : Buf (Elt F) ((c : Thread nD τ).loc cc0_scratch1))
    (fo : Buf (Elt F) ((c : Thread nD τ).loc cc0_stg4_0)) (Kt : PUnit → sProp 𝕄) :
    iprop(known m K ∗ posP c ∗ toksP c ∗ credsP c ∗ (((c : Thread nD τ).loc cc0_scratch0) ↦{fullShare} f0) ∗ (((c : Thread nD τ).loc cc0_scratch1) ↦{fullShare} fb)
        ∗ owesE c (O₀ c) ∗ xP m c ∗ wP m c ∗ sxP m c ∗ swP m c ∗ (((c : Thread nD τ).loc cc0_stg4_0) ↦{fullShare} fo))
      ⊢ iprop(((Φ₁ c ∗ owesE c 0 ∗ xP m c ∗ wP m c ∗ sxP m c ∗ swP m c ∗ stg c cc0_stg4_0 (outFin m c)) -∗ Kt ⟨⟩)
        -∗ wp frame (wpE (defs₀ (F := F)) 𝒱₀ (c : Thread nD τ) none) Set.univ (onBufs (cc0_body (F := F))) Kt) := by
  unfold onBufs
  simp only [cc0_body_eq_skeleton]; unfold cc0_body_skel
  simp only [wp_bind]
  unfold toksP credsP
  rw [fin8, fin8, fin8, ← buf_back]
  iintro ⟨#HK, Hpos, ⟨TbP, TbN, ⟨T0, T1, T2, T3, T4, T5, T6, T7⟩, R0, R1, R2, R3, R4, R5, R6, R7⟩,
    ⟨Cb, C0, C1, C2, C3, C4, C5, C6, C7⟩, ⟨S0, S1, S2, S3, S4, S5, S6, S7⟩, Hb, HO, Hx, Hw, Hsx, Hsw, Ho⟩ Hk
  ihave Hpos := (pos_list c) $$ Hpos
  icases Hpos with ⟨Ab, ⟨A0, A1, A2, A3, A4, A5, A6, A7⟩, B0, B1, B2, B3, B4, B5, B6, B7⟩
  ihave Ho := (out_start m c fo) $$ Ho
  iapply (part1 c)
  iintro %v2 %v13 %v24 %v35
  dsimp only
  iapply (part2 m K c v13 v24 f0) $$ [Hx Hsx Hsw S0 S1 S2 S3 S4 S5 S6 S7 HO TbP TbN Cb Ab]
  · iframe HK Hx Hsx Hsw S0 S1 S2 S3 S4 S5 S6 S7 HO TbP TbN Cb Ab
  iintro ⟨Hx, Hsx, Hsw, S0, S1, HF, HT, HO, Zb⟩
  unfold barF barT
  icases HF with ⟨%fp, P4, P5, P7⟩
  icases HT with ⟨%fn, N2, N3, N6⟩
  ihave N6 := (slot_halves (nxt c) 6 _ fullShare fn).1 $$ N6
  icases N6 with ⟨N6, N6'⟩
  ihave P7 := (slot_halves (prv c) 7 _ fullShare fp).1 $$ P7
  icases P7 with ⟨P7, P7'⟩
  ihave S0 := (slot_three c 0 _ (gath m c)).1 $$ S0
  icases S0 with ⟨S0a, S0b, S0c⟩
  ihave S1 := (slot_three c 1 _ (gath m c)).1 $$ S1
  icases S1 with ⟨S1a, S1b, S1c⟩
  iapply (part3 m K c v13 v24 fn fp fn) $$ [S0a S1a S1b N2 N3 P5 HO T0 R0 T1 R1 T2 R2]
  · iframe HK S0a S1a S1b N2 N3 P5 HO T0 R0 T1 R1 T2 R2
  iintro ⟨D0, D1, D2, HO⟩
  iapply (part4 m K c v2 fp fb []) $$ [S0b S0c S1c P4 HO T3 R3 Hw Hb Ho]
  · iframe HK S0b S0c S1c P4 HO T3 R3 Hw Hb Ho
  iintro ⟨D3, HO, S0c, S1c, Hw, Hb, Ho⟩
  dsimp only
  iapply (part5 m K c v2 v13 v24 _ fn _) $$ [Ho HO C0 B0 N6 T4 R4]
  · iframe HK Ho HO C0 B0 N6 T4 R4
  iintro ⟨Ho, HO, Z0, S2b, S2r, D4⟩
  iapply (part6 m K c v13 v24 fn fp) $$ [HO S2b N6' T5 R5 C3 B3 P7 T6 R6]
  · iframe HK HO S2b N6' T5 R5 C3 B3 P7 T6 R6
  iintro ⟨HO, D5, D6, Z3, S5b, S5r⟩
  iapply (part7 m K c v13 fp _) $$ [HO S5b P7' T7 R7 S2r S5r Hb Ho]
  · iframe HK HO S5b P7' T7 R7 S2r S5r Hb Ho
  iintro ⟨HO, D7, S2r, S5r, Hb, Ho⟩
  dsimp only
  iapply (part8 m K c v13 v24 _) $$ [Ho HO C1 B1 C2 B2]
  · iframe HK Ho HO C1 B1 C2 B2
  iintro ⟨Ho, HO, Z1, Z2, S3, S4⟩
  iapply (part9 m c v13 v24 _) $$ [S3 S4 Hb Ho]
  · iframe S3 S4 Hb Ho
  iintro ⟨S3, S4, Hb, Ho⟩
  iapply (part10 m K c v13 v35) $$ [HO C4 B4 C6 B6 Hb]
  · iframe HK HO C4 B4 C6 B6 Hb
  iintro %w ⟨HO, Z4, Z6, S6a, S7a, Hb⟩
  dsimp only
  iapply (part11 m K c v13 v35 w _) $$ [HO Ho S7a Hb C5 B5]
  · iframe HK HO Ho S7a Hb C5 B5
  iintro %w ⟨HO, Ho, S7a, Hb, Z5, S6b⟩
  iapply (part12 m K c v35 w _) $$ [HO Ho S6b Hb C7 B7]
  · iframe HK HO Ho S6b Hb C7 B7
  iintro %w %w' ⟨HO, Ho, S6b, Hb, Z7, S7b⟩
  dsimp only
  iapply (part13 m K c w w' _) $$ [HO Ho D0 A0 D1 A1]
  · iframe HK HO Ho D0 A0 D1 A1
  iintro ⟨HO, Ho, Y0, Y1, S0a, S1a⟩
  iapply (part14 m K c) $$ [HO D2 A2 D3 A3 D4 A4 D5 A5]
  · iframe HK HO D2 A2 D3 A3 D4 A4 D5 A5
  iintro ⟨HO, Y2, Y3, Y4, Y5, S1b, S0b, S2a, S2b⟩
  iapply (tail m K c) $$ [HO D6 A6 D7 A7]
  · iframe HK HO D6 A6 D7 A7
  iintro ⟨HO, Y6, Y7, S5a, S5b⟩
  ihave S0 := (slot_three c 0 _ (gath m c)).2 $$ [S0a S0b S0c]
  · iframe S0a S0b S0c
  ihave S1 := (slot_three c 1 _ (gath m c)).2 $$ [S1a S1b S1c]
  · iframe S1a S1b S1c
  ihave S2 := (slot_back c 2 _ (gath m c)) $$ [S2a S2b S2r]
  · iframe S2a S2b S2r
  ihave S5 := (slot_back c 5 _ (gath m c)) $$ [S5a S5b S5r]
  · iframe S5a S5b S5r
  ihave S6 := (slot_halves c 6 _ fullShare (gath m c)).2 $$ [S6a S6b]
  · iframe S6a S6b
  ihave S7 := (slot_halves c 7 _ fullShare (gath m c)).2 $$ [S7a S7b]
  · iframe S7a S7b
  ihave S := (Entails.of_eq (buf_back c (gath m c))) $$ [S0 S1 S2 S3 S4 S5 S6 S7]
  · iframe S0 S1 S2 S3 S4 S5 S6 S7
  have hd := out_done m c
  unfold tiles at hd
  ihave Ho := hd $$ Ho
  ihave Z := (sem_list c) $$ [Zb Y0 Y1 Y2 Y3 Y4 Y5 Y6 Y7 Z0 Z1 Z2 Z3 Z4 Z5 Z6 Z7]
  · iframe Zb Y0 Y1 Y2 Y3 Y4 Y5 Y6 Y7 Z0 Z1 Z2 Z3 Z4 Z5 Z6 Z7
  iapply Hk
  unfold Φ₁ scrP wbP
  isplitl [S Hb Z]
  · isplitr [Z]
    · isplitl [S]
      · iexists (gath m c); iexact S
      · iexists _; iexact Hb
    · iexact Z
  iframe HO Hx Hw Hsx Hsw Ho

end Body

/-! ## The body obligation -/

def bodyPre' (c : Dev nD) : sProp 𝕄 :=
  iprop(Φ₀ m c ∗ (dats m 0 c).owesAt () t₀.castSucc
    ∗ (∃ d, stg c cc0_stg0_0 ((dats m 0 c).before (0 : Fin 5) t₀ d))
    ∗ (∃ d, stg c cc0_stg1_0 ((dats m 0 c).before (1 : Fin 5) t₀ d))
    ∗ (∃ d, stg c cc0_stg2_0 ((dats m 0 c).before (2 : Fin 5) t₀ d))
    ∗ (∃ d, stg c cc0_stg3_0 ((dats m 0 c).before (3 : Fin 5) t₀ d))
    ∗ (∃ d, stg c cc0_stg4_0 ((dats m 0 c).before (4 : Fin 5) t₀ d)))

def bodyPost (c : Dev nD) : sProp 𝕄 :=
  iprop(Φ₁ c ∗ (dats m 0 c).owesAt () t₀.succ ∗ stg c cc0_stg0_0 (xstg m c) ∗ stg c cc0_stg1_0 (wstg m c)
    ∗ stg c cc0_stg2_0 (sxstg m c) ∗ stg c cc0_stg3_0 (swstg m c) ∗ stg c cc0_stg4_0 (outFin m c))

/-- What the pipeline asks of the body on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ (onBufs (cc0_body (F := F))) (fun _ => bodyPost m c)
  have b0 : ∀ d, (dats m 0 c).before (0 : Fin 5) t₀ d = xstg m c := fun d => by unfold Dat.before; rw [if_pos (fetch0_0 t₀)]; rfl
  have b1 : ∀ d, (dats m 0 c).before (1 : Fin 5) t₀ d = wstg m c := fun d => by unfold Dat.before; rw [if_pos (fetch0_1 t₀)]; rfl
  have b2 : ∀ d, (dats m 0 c).before (2 : Fin 5) t₀ d = sxstg m c := fun d => by unfold Dat.before; rw [if_pos (fetch0_2 t₀)]; rfl
  have b3 : ∀ d, (dats m 0 c).before (3 : Fin 5) t₀ d = swstg m c := fun d => by unfold Dat.before; rw [if_pos (fetch0_3 t₀)]; rfl
  unfold bodyPre' Φ₀ start ghost scrP
  simp only [b0, b1, b2, b3]
  iintro ⟨⟨⟨⟨%K, #HR, Hp, Ht⟩, Hc, #HL⟩, ⟨%f0, H0⟩, ⟨%fb, Hb⟩⟩, Ho, ⟨%_, %g0, %e0, Hx⟩, ⟨%_, %g1, %e1, Hw⟩, ⟨%_, %g2, %e2, Hsx⟩, ⟨%_, %g3, %e3, Hsw⟩,
    ⟨%_, %fo, %e4, Hout⟩⟩
  subst e0 e1 e2 e3
  unfold Dat.owesAt Pipeline.owesWithin
  icases Ho with ⟨%W, %hW, HO⟩
  rw [show (dats m 0 c).owed t₀.castSucc = O₀ c from rfl]
  iapply (sound_body m K c f0 fb fo fun _ => bodyPost m c) $$ [Hp Ht Hc H0 Hb HO Hx Hw Hsx Hsw Hout]
  · unfold known owesE xP wP sxP swP
    isplitr
    · isplitr; · iexact HR
      iexact HL
    isplitl [Hp]; · iexact Hp
    isplitl [Ht]; · iexact Ht
    isplitl [Hc]; · iexact Hc
    isplitl [H0]; · iexact H0
    isplitl [Hb]; · iexact Hb
    isplitl [HO]; · iexists W; iexact HO
    isplitl [Hx]; · iexact Hx
    isplitl [Hw]; · iexact Hw
    isplitl [Hsx]; · iexact Hsx
    isplitl [Hsw]; · iexact Hsw
    iexact Hout
  · unfold bodyPost owesE xP wP sxP swP Dat.owesAt Pipeline.owesWithin
    rw [show (dats m 0 c).owed t₀.succ = 0 from rfl]
    iintro ⟨HΦ, ⟨%W, HO⟩, Hx, Hw, Hsx, Hsw, Hout⟩
    isplitl [HΦ]; · iexact HΦ
    isplitl [HO]
    · iexists W
      isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    isplitl [Hsx]
    · iexists _; isplitr; · (ipureintro; rfl)
      iexact Hsx
    isplitl [Hsw]
    · iexists _; isplitr; · (ipureintro; rfl)
      iexact Hsw
    iexact Hout

end Cert.RingProof

end
-- ==== Proof.Launch.lean ====
/-
The launch: the cells and tokens dealt out to the devices, and the whole run.
-/
module

public import proofs.«01_k».proof.Proof.Body
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The cells and the tokens -/

/-- The kernel's own semaphores: the eight send, then the eight receive semaphores. -/
abbrev osem : Fin 16 → SemLoc sig := fun k => .dma ⟨5 + k.val, by have := k.isLt; show 5 + k.val < 21; omega⟩

theorem ownSemFacts : Pipeline.OwnSemFacts cfg0.spec osem := by decide

theorem share_eq (c : Dev nD) (w : Fin cfg0.W) : (dats m 0 c).share w = fullShare := by unfold Dat.share; split <;> rfl

def ringCells : Finset (GSem nD τ sig) := Finset.univ.map ⟨cellAt, cellAt_inj⟩

/-- The duties of a device's own cells: its barrier's two, each send cell's, each receive cell's. -/
abbrev Duty : Type := Bool ⊕ (Fin 8 ⊕ Fin 8)
def dutyAt : Duty → Fin 17 × Bool
  | .inl b => (0, b)
  | .inr (.inl t) => (sndIx t, false)
  | .inr (.inr k) => (rcvIx k, false)
theorem dutyAt_inj : Function.Injective dutyAt := by decide
def tokOf (x : Dev nD × Duty) : GSem nD τ sig × ℕ × Bool := (cellAt (x.1, (dutyAt x.2).1), 0, (dutyAt x.2).2)

theorem tokOf_inj : Function.Injective tokOf := fun x y h => by
  have h1 := cellAt_inj (congrArg Prod.fst h)
  have h2 : (dutyAt x.2).2 = (dutyAt y.2).2 := congrArg (fun z : GSem nD τ sig × ℕ × Bool => z.2.2) h
  have h3 : (dutyAt x.2).1 = (dutyAt y.2).1 := congrArg Prod.snd h1
  have h4 : x.1 = y.1 := (Prod.mk.inj h1).1
  exact Prod.ext h4 (dutyAt_inj (Prod.ext h3 h2))
def ringToks : Finset (GSem nD τ sig × ℕ × Bool) := Finset.univ.map ⟨tokOf, tokOf_inj⟩

def u₀ : UU :=
  (initOf (Pipeline.cells cfgs cellOf_inj) (Pipeline.launchToks cfgs cellOf_inj), initOf ringCells ringToks)

/-- The tokens of device `c`'s own cells. -/
def toks (c : Dev nD) : sProp 𝕄 :=
  iprop((dutyTok ER (barCell c) 0 true ∗ dutyTok ER (barCell c) 0 false)
    ∗ (bigSep Finset.univ fun t : Fin 8 => dutyTok ER (sndCell c t) 0 false) ∗ bigSep Finset.univ fun k : Fin 8 => dutyTok ER (rcvCell c k) 0 false)

/-- What the launch deals device `c`, -/
def G (c : Dev nD) : sProp 𝕄 :=
  iprop((bigSep Finset.univ fun k : Fin 17 => roundState ER (gatherRd m) (cellAt (c, k)) 0)
    ∗ (bigSep Finset.univ fun k : Fin 17 => iprop(atPos ER (cellAt (c, k)) 0 ∅ 0 ∗ reached ER (cellAt (c, k)) 0)) ∗ toks c)
/-- and what is made of it for all devices at once. -/
def G' (c : Dev nD) : sProp 𝕄 := iprop(∃ K, ghost m K c)

omit [FloatOps F] in
theorem toks_eq : bigSep ringToks (fun x => (dutyTok ER x.1 x.2.1 x.2.2 : sProp 𝕄)) = bigSep Finset.univ fun c : Dev nD => toks c := by
  unfold ringToks; rw [bigSep_map, bigSep_univ_prod]
  refine bigSep_congr fun c _ => ?_
  rw [bigSep_univ_sum, bigSep_univ_sum, bigSep_univ_eq_bigSepL [true, false] (by decide) (by decide), bigSepL_cons_cons, bigSepL_singleton]
  unfold toks
  have hs : (bigSep Finset.univ fun t : Fin 8 => (dutyTok ER (sndCell c t) 0 false : sProp 𝕄)) = bigSep Finset.univ fun t : Fin 8 => dutyTok ER (cellAt (c, sndIx t)) 0 false :=
    bigSep_congr fun t _ => by rw [cellAt_snd]
  have hr : (bigSep Finset.univ fun k : Fin 8 => (dutyTok ER (rcvCell c k) 0 false : sProp 𝕄)) = bigSep Finset.univ fun k : Fin 8 => dutyTok ER (cellAt (c, rcvIx k)) 0 false :=
    bigSep_congr fun k _ => by rw [cellAt_rcv]
  rw [hs, hr]
  rfl

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (cellAt (c, k)) := by
    unfold ringCells; rw [bigSep_map, bigSep_univ_prod]; rfl
  iintro HX
  imod (Rounds.fund ER (gatherRd m) ringCells ringToks) $$ HX with ⟨Hst, Hr, Hat, Htok⟩
  imodintro
  ihave Hst' := (Entails.of_eq (hX fun g => roundState ER (gatherRd m) g 0)) $$ Hst
  ihave Hat' := (Entails.of_eq (hX fun g => atPos ER g 0 ∅ 0)) $$ Hat
  ihave Hr' := (Entails.of_eq (hX fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore; with the kernel's own sixteen, the seventeen cells'. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : Fin 17 => semVal (cellAt (c, k)) 0 : sProp 𝕄) := by
  rw [Pipeline.ownSems0_eq_of_list c osem [0, 1, 2, 3, 4, 5, 6, 7, 8, 9, 10, 11, 12, 13, 14, 15] (by decide) (by decide), fin17]
  unfold unscopedSems0
  rw [bigSep_eq_bigSepL_of_eq [SemLoc.reg barS] (by decide) (by decide)]
  rfl

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (gatherRd m) κ (cellAt (c, k))))
          ∗ (bigSep Finset.univ fun k => iprop(atPos ER (cellAt (c, k)) 0 ∅ 0 ∗ reached ER (cellAt (c, k)) 0)) ∗ toks c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Fin 17 => semVal (cellAt (c, k)) 0) ∗ bigSep Finset.univ fun k : Fin 17 => roundState ER (gatherRd m) (cellAt (c, k)) 0)
      ⊢ (|={Set.univ}=> bigSep Finset.univ fun k => iprop(∃ κ : ℕ, cellInv ER (gatherRd m) κ (cellAt (c, k))) : sProp 𝕄) from by
        rw [← bigSep_sep']
        exact (bigSep_mono fun k _ => (Rounds.body_intro ER (gatherRd m) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens around the ring -/

/-- Every receive cell is one copy's target. -/
def aim : Dev nD × Fin 8 → Dev nD × Fin 8 := fun x => (tgt x.1 x.2.val, rix x.2.val)
theorem aim_inj : Function.Injective aim := by decide
def aimE : Dev nD × Fin 8 ≃ Dev nD × Fin 8 := Equiv.ofBijective aim (Finite.injective_iff_bijective.mp aim_inj)

omit [FloatOps F] in
/-- Each token to the device that pays the duty. -/
theorem toks_around : (bigSep Finset.univ fun c : Dev nD => (toks c : sProp 𝕄)) ⊢ bigSep Finset.univ fun c : Dev nD => toksP c := by
  have hr : (bigSep Finset.univ fun c : Dev nD => bigSep Finset.univ fun k : Fin 8 => (dutyTok ER (rcvCell c k) 0 false : sProp 𝕄))
      = bigSep Finset.univ fun c : Dev nD => bigSep Finset.univ fun t : Fin 8 => dutyTok ER (rcvCell (tgt c t.val) (rix t.val)) 0 false := by
    rw [← bigSep_univ_prod (fun x : Dev nD × Fin 8 => (dutyTok ER (rcvCell x.1 x.2) 0 false : sProp 𝕄)),
      bigSep_univ_equiv aimE (fun x : Dev nD × Fin 8 => (dutyTok ER (rcvCell x.1 x.2) 0 false : sProp 𝕄)), bigSep_univ_prod]
    rfl
  unfold toks toksP
  simp only [bigSep_sep']
  rw [hr, bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2⟩, H3, H4⟩
  isplitl [H1]; · iexact H1
  isplitl [H2]; · iexact H2
  isplitl [H3]; · iexact H3
  iexact H4

omit [FloatOps F] in
/-- What each of many things yields with a shared record, all of them yield. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (gatherRd m) κ (cellAt (c, k))))
          ∗ (bigSep Finset.univ fun k => iprop(atPos ER (cellAt (c, k)) 0 ∅ 0 ∗ reached ER (cellAt (c, k)) 0)) ∗ toks c) : sProp 𝕄)
      ⊢ bigSep Finset.univ (G' m) := by
  rw [bigSep_sep', bigSep_sep', ← bigSep_univ_prod (fun x : Dev nD × Fin 17 => iprop(∃ κ : ℕ, cellInv ER (gatherRd m) κ (cellAt x))),
    bigSep_congr (s := Finset.univ) (fun (c : Dev nD) _ => bigSep_sep' Finset.univ (fun k : Fin 17 => (atPos ER (cellAt (c, k)) 0 ∅ 0 : sProp 𝕄)) (fun k => reached ER (cellAt (c, k)) 0)),
    bigSep_sep', ← bigSep_univ_prod (fun x : Dev nD × Fin 17 => (reached ER (cellAt x) 0 : sProp 𝕄))]
  iintro ⟨HI, ⟨Hat, #HR⟩, Htok⟩
  ihave HK := (BI.bigSep_exists_pi Finset.univ (fun (x : Dev nD × Fin 17) (κ : ℕ) => (cellInv ER (gatherRd m) κ (cellAt x) : sProp 𝕄))) $$ HI
  icases HK with ⟨%K, #HI⟩
  ihave Htk := (toks_around (F := F)) $$ Htok
  have hg : ∀ c ∈ (Finset.univ : Finset (Dev nD)), iprop(records m K ∗ (posP c ∗ toksP c)) ⊢ G' m c := fun c _ => by
    unfold G' ghost
    iintro H; iexists K; iexact H
  iapply (each_with (R := records m K) hg)
  isplitr
  · unfold records; isplitl; · iexact HI
    iexact HR
  · iapply (Entails.of_eq (bigSep_sep' Finset.univ (fun c : Dev nD => (posP c : sProp 𝕄)) toksP).symm)
    unfold posP
    isplitl [Hat]; · iexact Hat
    iexact Htk

omit [FloatOps F] in
/-- All devices' semaphores at once become the shared record, and each device's positions and tokens. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem rcv_ne_bar (k : Fin 8) : (SemLoc.dma (rcvS k) : SemLoc sig) ≠ .reg barS := fun h => by cases h
theorem bar_inj {a b : Dev nD} (h : barCell a = barCell b) : a = b := congrArg (fun g : GSem nD τ sig => g.1.1) h
theorem rcv_inj {a b : Dev nD} {k k' : Fin 8} (h : rcvCell a k = rcvCell b k') : (a, k) = (b, k') := by
  have h' : cellAt (a, rcvIx k) = cellAt (b, rcvIx k') := by rw [cellAt_rcv, cellAt_rcv]; exact h
  have h1 := cellAt_inj h'
  have h2 : k.val + 9 = k'.val + 9 := congrArg (fun x : Dev nD × Fin 17 => x.2.val) h1
  have ha : a = b := congrArg Prod.fst h1
  have hk : k = k' := Fin.ext (by omega)
  rw [ha, hk]

/-- No copy is owed to a barrier cell; -/
theorem rem_bar (d c : Dev nD) (n : ℕ) : rem d n (barCell c) () = 0 := by
  induction n with
  | zero => rfl
  | succ n ih =>
    unfold rem
    rw [Pi.add_apply, Finsupp.add_apply, ih, tallyAt_ne_cell (fun h => rcv_ne_bar _ (congrArg Prod.snd h).symm)]; rfl
/-- a receive cell is owed the copies that aim at it. -/
theorem rem_rcv (d c : Dev nD) (k : Fin 8) (n : ℕ) :
    rem d n (rcvCell c k) () = ∑ i ∈ Finset.range n, if (tgt d (7 - i), rix (7 - i)) = (c, k) then amt (7 - i) else 0 := by
  induction n with
  | zero => rfl
  | succ n ih =>
    unfold rem
    rw [Pi.add_apply, Finsupp.add_apply, ih, Finset.sum_range_succ, tallyAt_apply]
    congr 1
    by_cases h : (tgt d (7 - n), rix (7 - n)) = (c, k)
    · rw [if_pos h, if_pos ⟨by rw [(Prod.mk.inj h).1, (Prod.mk.inj h).2], rfl⟩]
    · rw [if_neg h, if_neg fun h' => h (rcv_inj h'.1).symm]

/-- The copies, last first. -/
def aimR : Dev nD × Fin 8 → Dev nD × Fin 8 := fun x => (tgt x.1 (7 - x.2.val), rix (7 - x.2.val))
theorem aimR_inj : Function.Injective aimR := by decide
def aimRE : Dev nD × Fin 8 ≃ Dev nD × Fin 8 := Equiv.ofBijective aimR (Finite.injective_iff_bijective.mp aimR_inj)
theorem amt_rix (t : ℕ) (h : t < 8) : amt (rix t).val = amt t := by
  interval_cases t <;> rfl

/-- A barrier cell is owed a unit by each neighbour; -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, rem_bar, tallyAt_apply, tallyAt_apply, Nat.zero_add]
  congr 1
  · by_cases h : d = prv c
    · rw [if_pos h, if_pos ⟨by rw [h, nxt_prv], rfl⟩]
    · rw [if_neg h, if_neg fun h' => h (by rw [bar_inj h'.1, prv_nxt])]
  · by_cases h : d = nxt c
    · rw [if_pos h, if_pos ⟨by rw [h, prv_nxt], rfl⟩]
    · rw [if_neg h, if_neg fun h' => h (by rw [bar_inj h'.1, nxt_prv])]
theorem owed_rcv (d c : Dev nD) (k : Fin 8) :
    O₀ d (rcvCell c k) () = ∑ i : Fin 8, if aimR (d, i) = (c, k) then amt (aimR (d, i)).2.val else 0 := by
  unfold O₀ O₁
  rw [Pi.add_apply, Finsupp.add_apply, Pi.add_apply, Finsupp.add_apply, rem_rcv, tallyAt_ne_cell (fun h => rcv_ne_bar _ (congrArg Prod.snd h)),
    tallyAt_ne_cell (fun h => rcv_ne_bar _ (congrArg Prod.snd h)), Finsupp.zero_apply, Nat.add_zero, Nat.add_zero, Finset.sum_range]
  refine Finset.sum_congr rfl fun i _ => ?_
  have e : amt (aimR (d, i)).2.val = amt (7 - i.val) := amt_rix _ (by omega)
  rw [e]; rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]
theorem launch_rcv (c : Dev nD) (k : Fin 8) :
    tallyOn (rcvCell c k) (launchCredit (Pipeline.owing O₀) 0 (rcvCell c k)) = (tallyAt (rcvCell c k) () (amt k.val) : CellTallies nD τ sig Unit) := by
  unfold tallyAt; refine congrArg _ (Finsupp.ext fun u => ?_); cases u
  rw [Pipeline.launchCredit_owing, Finsupp.single_eq_same, Finset.sum_congr rfl fun d _ => owed_rcv d c k,
    ← Fintype.sum_prod_type' (f := fun (d : Dev nD) (i : Fin 8) => if aimR (d, i) = (c, k) then amt (aimR (d, i)).2.val else 0)]
  have e := Equiv.sum_comp aimRE (fun y : Dev nD × Fin 8 => if y = (c, k) then amt y.2.val else 0)
  refine Eq.trans e ?_
  rw [Finset.sum_ite_eq' Finset.univ (c, k), if_pos (Finset.mem_univ _)]

theorem rcvS_inj : Function.Injective (fun k : Fin 8 => (SemLoc.dma (rcvS k) : SemLoc sig)) := fun k k' h => by
  have h2 : 13 + k.val = 13 + k'.val := congrArg (fun q : DmaSem sig => q.val) (SemLoc.dma.inj h)
  exact Fin.ext (by omega)

omit [FloatOps F] in
theorem creds (c : Dev nD) : (Pipeline.launchCred O₀ c : sProp 𝕄) ⊢ credsP c := by
  unfold Pipeline.launchCred credsP
  rw [bigSep_univ_at _ (SemLoc.reg barS), launch_bar]
  refine sep_mono_right ?_
  refine (bigSep_subset (t := Finset.univ.map ⟨_, rcvS_inj⟩) ?_).trans ?_
  · intro s hs
    obtain ⟨k, _, rfl⟩ := Finset.mem_map.mp hs
    exact Finset.mem_erase.mpr ⟨rcv_ne_bar k, Finset.mem_univ _⟩
  · rw [bigSep_map]
    exact bigSep_mono fun k _ => Entails.of_eq (congrArg cred (launch_rcv c k))

/-! ## The run -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrP
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scrP
  iintro ⟨Hr, Hz⟩
  ihave H := (Entails.of_eq (sems_eq (F := F) c).symm) $$ Hz
  icases H with ⟨Hu, Ho⟩
  isplitl [Hu]; · iexact Hu
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On the four devices, for any float values, from any memory with zero counters: every weakly fair execution ends, with each
    device's result computed, its inputs as they were and every semaphore at zero. -/
theorem run_main : θ_run defs (onTc (τ := τ) (main (F := F))) (⟨m, fun _ => 0, ρ⟩ : MemSt nD τ sig (Elt F)) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array after the run holds what it held. -/
theorem finalA_in (c : Dev nD) (w : Fin cfg0.W) (hw : w.val < 4) : finalA m c w = m ((cfg0.win w).arr.view.loc (c : Thread nD τ)) := by
  unfold finalA
  refine (dats (F := F) m 0 c).arrAt_in w ?_ _
  revert hw; revert w; decide

/-- The run leaves the four inputs as they were and every semaphore at zero. -/
theorem run_frame : θ_run defs (onTc (τ := τ) (main (F := F))) (⟨m, fun _ => 0, ρ⟩ : MemSt nD τ sig (Elt F))
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c =>
    ⟨(h.1 c 0).trans (finalA_in m c 0 (by decide)), (h.1 c 1).trans (finalA_in m c 1 (by decide)),
      (h.1 c 2).trans (finalA_in m c 2 (by decide)), (h.1 c 3).trans (finalA_in m c 3 (by decide))⟩, h.2⟩) (run_main m ρ)

end Cert.RingProof

end
-- ==== Proof.Element.lean ====
/-
What one element of a device's result is, over the extended reals.

Every element of the result, whichever step of the ring wrote it, is the activation of one dot product: a row of the whole
`x`, found in the block of the device that owns it, by a column of the device's own `w` (`outFin_apply`). The one-device
program's payload is the same activation of the same kind of product (`silu_payload`).
-/
module

public import proofs.«01_k».proof.Proof.Launch
public import proofs.«01_k».proof.Proof.Gen.SiluIdeal.Skeleton
public import Idealize.ShloMosaic.Lib.MatmulPlain

@[expose] public section

noncomputable section

namespace Cert.RingProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## One element -/

/-- The activation both programs apply to one accumulated product `a` at the scale `s`. -/
def act (s a : F .f32) : F .f32 :=
  let y := FloatOps.mulf a s
  FloatOps.divf y (FloatOps.addf (Scalar.ofBits .f32 0x3F800000#32) (FloatOps.exp (FloatOps.subf (Scalar.ofBits .f32 0x00000000#32) y)))

/-- The dot product of a row of `x` and a column of `w`. -/
def dot (x w : Fin 4096 → EReal) : EReal := ∑ k, x k * w k

/-- A plain product accumulated onto zero. -/
theorem product_apply {M N : ℕ} (x : FVec Ideal ⟨2, ![M, 4096]⟩ .fp8e4m3) (w : FVec Ideal ⟨2, ![4096, N]⟩ .fp8e5m2) (r : Fin M) (l : Fin N) :
    FloatOps.matmul (F := Ideal) (DotDims.plain M 4096 N) none x w (constant ⟨2, ![M, N]⟩ .f32 0x00000000#32) (ix2 r l)
      = dot (fun k => x (ix2 r k)) (fun k => w (ix2 k l)) := by
  rw [Ideal.matmul_plain_apply]
  show Ideal.ofBits .f32 0x00000000#32 + _ = _
  rw [Ideal.ofBits_zero_f32, zero_add]
  rfl

/-- The same of a loaded slot, whose leading axis is dropped first. -/
theorem slot_product {M N : ℕ} (x : FVec Ideal ⟨3, ![1, M, 4096]⟩ .fp8e4m3) (h : (⟨3, ![1, M, 4096]⟩ : Shape).ShapeCasts ⟨2, ![M, 4096]⟩)
    (w : FVec Ideal ⟨2, ![4096, N]⟩ .fp8e5m2) (r : Fin M) (l : Fin N) :
    FloatOps.matmul (F := Ideal) (φ₁ := .fp8e4m3) (DotDims.plain M 4096 N) none (shapeCast ⟨2, ![M, 4096]⟩ x h) w (constant ⟨2, ![M, N]⟩ .f32 0x00000000#32) (ix2 r l)
      = dot (fun k => x (ix3 (⟨0, Nat.one_pos⟩ : Fin 1) r k)) (fun k => w (ix2 k l)) := by
  refine (product_apply (shapeCast ⟨2, ![M, 4096]⟩ x h) w r l).trans (congrArg (dot · fun k => w (ix2 k l)) (funext fun k => ?_))
  refine (shapeCast_dropUnit_apply ![M, 4096] x h (ix2 r k)).trans (congrArg x (funext fun a => ?_))
  match a with
  | ⟨0, _⟩ => rfl
  | ⟨1, _⟩ => rfl
  | ⟨2, _⟩ => rfl

/-- The three payloads, at one element. -/
theorem slot_payload (s : Ideal .f32) (x : Vec Ideal S1x512x4096 .fp8e4m3) (w : Vec Ideal S4096x512 .fp8e5m2) (r : Fin 512) (l : Fin 512) :
    k0_pay5 s x w (ix2 r l) = act s (dot (fun k => x (ix3 (⟨0, Nat.one_pos⟩ : Fin 1) r k)) (fun k => w (ix2 k l))) :=
  congrArg (act s) (slot_product (M := 512) (N := 512) x shapeCasts_S1x512x4096_S512x4096 w r l)

theorem half_payload (s : Ideal .f32) (x : Vec Ideal S1x256x4096 .fp8e4m3) (w : Vec Ideal S4096x512 .fp8e5m2) (r : Fin 256) (l : Fin 512) :
    k0_pay17 s x w (ix2 r l) = act s (dot (fun k => x (ix3 (⟨0, Nat.one_pos⟩ : Fin 1) r k)) (fun k => w (ix2 k l))) :=
  congrArg (act s) (slot_product (M := 256) (N := 512) x shapeCasts_S1x256x4096_S256x4096 w r l)

theorem silu_payload (x : Vec Ideal Cert.SiluIdeal.S4096x4096 .fp8e4m3) (w : Vec Ideal Cert.SiluIdeal.S4096x2048 .fp8e5m2) (a b : Elt Ideal .f32)
    (r : Fin 4096) (l : Fin 2048) :
    Cert.SiluIdeal.Gen.k0_pay1 x w a b (ix2 r l)
      = act (Scalar.mulf (F := Ideal) (φ := .f32) a b) (dot (fun k => x (ix2 r k)) (fun k => w (ix2 k l))) :=
  congrArg (act (Scalar.mulf (F := Ideal) (φ := .f32) a b)) (product_apply (M := 4096) (N := 2048) x w r l)

/-! ## What a kernel reads -/

omit [FloatOps F] in
/-- The staged blocks are the arrays. -/
theorem xstg_apply (c : Dev nD) (i : S1024x4096.Idx) : (xstg m c : S1024x4096.Idx → Elt F .fp8e4m3) i = m ((c : Thread nD τ).loc main_arg0) i := by
  unfold xstg
  refine congrArg (m ((c : Thread nD τ).loc main_arg0)) (Shape.idx_ext₂ ?_ ?_)
  · exact Pipeline.Window.rect_emb_val_of_index_zero win0_0 (0 : Fin 1) (0 : Fin 2) rfl i
  · exact Pipeline.Window.rect_emb_val_of_index_zero win0_0 (0 : Fin 1) (1 : Fin 2) rfl i

omit [FloatOps F] in
theorem wstg_apply (c : Dev nD) (i : S4096x512.Idx) : (wstg m c : S4096x512.Idx → Elt F .fp8e5m2) i = m ((c : Thread nD τ).loc main_arg1) i := by
  unfold wstg
  refine congrArg (m ((c : Thread nD τ).loc main_arg1)) (Shape.idx_ext₂ ?_ ?_)
  · exact Pipeline.Window.rect_emb_val_of_index_zero win0_1 (0 : Fin 1) (0 : Fin 2) rfl i
  · exact Pipeline.Window.rect_emb_val_of_index_zero win0_1 (0 : Fin 1) (1 : Fin 2) rfl i

/-- The one index of a one-element array, -/
def one : S1.Idx := fun a => ⟨0, by match a with | ⟨0, _⟩ => exact Nat.one_pos⟩

omit [FloatOps F] in
/-- which has no other. -/
theorem idx_one (i j : S1.Idx) : i = j := by
  funext a; apply Fin.ext
  match a with
  | ⟨0, _⟩ => exact (Nat.lt_one_iff.mp (i 0).isLt).trans (Nat.lt_one_iff.mp (j 0).isLt).symm

/-- The scale a kernel multiplies by is the product of the two scales it was handed. -/
theorem scl_eq (c : Dev nD) : scl m c = Scalar.mulf (m ((c : Thread nD τ).loc main_arg2) one) (m ((c : Thread nD τ).loc main_arg3) one) := by
  unfold scl sxstg swstg
  exact congrArg₂ (fun a b : F .f32 => Scalar.mulf a b)
    (congrArg (m ((c : Thread nD τ).loc main_arg2)) (idx_one _ _)) (congrArg (m ((c : Thread nD τ).loc main_arg3)) (idx_one _ _))

set_option backward.proofsInPublic true in
/-- The device whose block holds row `r` of `x`, -/
def ownerOf (r : Fin 4096) : Dev nD := ⟨r.val / 1024, by have := r.isLt; show r.val / 1024 < 4; omega⟩
set_option backward.proofsInPublic true in
/-- and where in it. -/
def rowIn (r : Fin 4096) : Fin 1024 := ⟨r.val % 1024, Nat.mod_lt _ (by decide)⟩

theorem org_slotOf : ∀ (c o : Dev nD) (h : Fin 2), org c (slotOf ((o.val + 4 - c.val) % 4) h.val).val = o
    ∧ (slotOf ((o.val + 4 - c.val) % 4) h.val).val % 2 = h.val := by decide

omit [FloatOps F] in
/-- An element of the gathering buffer is an element of its owner's block. -/
theorem gath_at (c : Dev nD) (r : Fin 4096) (k : Fin 4096) (i : S8x512x4096.Idx)
    (h0 : (i 0).val = (slotOf ((r.val / 1024 + 4 - c.val) % 4) (r.val / 512)).val) (h1 : (i 1).val = r.val % 512) (h2 : (i 2).val = k.val) :
    gath m c i = m ((ownerOf r : Thread nD τ).loc main_arg0) (ix2 (rowIn r) k) := by
  have hs : slotOf ((r.val / 1024 + 4 - c.val) % 4) (r.val / 512) = slotOf ((r.val / 1024 + 4 - c.val) % 4) (r.val / 512 % 2) :=
    slotOf_congr _ (by omega)
  obtain ⟨ho, hp⟩ := org_slotOf c (ownerOf r) ⟨r.val / 512 % 2, by omega⟩
  rw [hs] at h0
  have ho' : org c (i 0).val = ownerOf r := by rw [h0]; exact ho
  have hp' : (i 0).val % 2 = r.val / 512 % 2 := by rw [h0]; exact hp
  unfold gath
  rw [xstg_apply, ho']
  refine congrArg (m ((ownerOf r : Thread nD τ).loc main_arg0)) (Shape.idx_ext₂ ?_ ?_)
  · show 512 * ((i 0).val % 2) + (i 1).val = r.val % 1024
    omega
  · exact h2

/-- **One element of a device's result.** -/
theorem outFin_apply (m : (ℓ : Loc nD τ sig) → Buf (Elt Ideal) ℓ) (c : Dev nD) (r : Fin 4096) (l : Fin 512) :
    (outFin m c : S4096x512.Idx → Ideal .f32) (ix2 r l) = act (scl m c)
      (dot (fun k => m ((ownerOf r : Thread nD τ).loc main_arg0) (ix2 (rowIn r) k)) (fun k => m ((c : Thread nD τ).loc main_arg1) (ix2 k l))) := by
  unfold outFin
  dsimp only
  split
  · next h =>
    refine (half_payload _ _ _ _ _).trans (congrArg (act (scl m c)) (congrArg₂ dot (funext fun k => ?_) (funext fun k => wstg_apply m c _)))
    refine gath_at m c r k _ ?_ ?_ ?_
    · show (slotOf 2 (r.val / 512)).val + 1 * 0 = _
      rw [show (r.val / 1024 + 4 - c.val) % 4 = 2 from h]; rfl
    · show 256 * (r.val / 256 % 2) + 1 * (r.val % 256) = _; omega
    · show 0 + 1 * k.val = _; omega
  · next h =>
    refine (slot_payload _ _ _ _ _).trans (congrArg (act (scl m c)) (congrArg₂ dot (funext fun k => ?_) (funext fun k => wstg_apply m c _)))
    refine gath_at m c r k _ ?_ ?_ ?_
    · exact Nat.add_zero _
    · show 0 + 1 * (r.val % 512) = _; omega
    · show 0 + 1 * k.val = _; omega

/-! ## The result array -/

theorem one_point (t t' : Fin cfg0.N) : t = t' := (by decide : ∀ t t' : Fin 1, t = t') t t'

/-- What a device's result array holds after its run. -/
theorem finalA_out (c : Dev nD) (r : Fin 4096) (l : Fin 512) :
    (finalA m c 4 : S4096x512.Idx → F .f32) (ix2 r l) = (outFin m c : S4096x512.Idx → F .f32) (ix2 r l) := by
  have h := congrFun ((dats m 0 c).read_blk_arrAt_eq_flushed 4 (fun t t' _ _ hn => absurd (one_point t t') hn) cfg0.N (0 : Fin 1) (by decide) (by decide)) (ix2 r l)
  refine Eq.trans (congrArg (finalA m c 4) (Shape.idx_ext₂ ?_ ?_)) h
  · exact (Pipeline.Window.rect_emb_val_of_index_zero win0_4 (0 : Fin 1) (0 : Fin 2) rfl (ix2 r l)).symm
  · exact (Pipeline.Window.rect_emb_val_of_index_zero win0_4 (0 : Fin 1) (1 : Fin 2) rfl (ix2 r l)).symm

end Cert.RingProof

end
-- ==== Proof.Whole.lean ====
/-
What the one-device program leaves in its result, element by element: its one point stores one payload over the whole of
its result, on the whole of its inputs.
-/
module

public import proofs.«01_k».proof.Proof.Element
public import proofs.«01_k».proof.Proof.Gen.SiluIdeal.Value

@[expose] public section

noncomputable section

namespace Cert.SiluProof

open Cert.SiluIdeal Cert.SiluIdeal.Gen Cert.SiluIdeal.Value
open Cert.RingProof (act dot)

open Idealize.ShloMosaic
open Idealize.ShloMosaic.TcCoe
open Idealize.ShloMosaic.ValueIdx (ix1 ix2)
open Idealize.SL.Sem
open Idealize.ShloMosaic.Pipeline (Dat Window)

variable (m : (ℓ : Loc nD τ sig) → Buf (Elt Ideal) ℓ)

/-- The one index of a one-element array. -/
abbrev one : S1.Idx := Cert.RingProof.one

theorem zero₂ : (![0, 0] : Fin 2 → ℕ) = fun _ => 0 := funext fun a => by fin_cases a <;> rfl

theorem zero₁ : (![0] : Fin 1 → ℕ) = fun _ => 0 := funext fun a => by fin_cases a; rfl

/-- A load of the whole of a buffer reads all of it. -/
theorem load_all {sp : Space} {S : Shape} {e : EltTy} (M : Memref sig .tc sp S e) (h : M.IsWhole) (X : S.Idx → Elt Ideal e)
    {off : Fin S.rank → ℕ} (hz : off = fun _ => 0) (inb : ∀ a, off a + S.size a ≤ S.size a) :
    View.readAt (Elt Ideal) M.view (Rect.unit off S.size inb).toLoadRect (h.unread X) = X := by
  rw [View.readAt_eq_ld, h.read_unread, View.ld_unit_zero hz]

/-- What the body leaves in its result's buffer is its payload on the four inputs. -/
theorem left_eq (c : Dev nD) (a0 : Memref sig .tc .vmem S4096x4096 .fp8e4m3) (h0 : a0.IsWhole) (a1 : Memref sig .tc .vmem S4096x2048 .fp8e5m2) (h1 : a1.IsWhole)
    (a2 : Memref sig .tc .smem S1 .f32) (h2 : a2.IsWhole) (a3 : Memref sig .tc .smem S1 .f32) (h3 : a3.IsWhole) (a4 : Memref sig .tc .vmem S4096x2048 .f32) (h4 : a4.IsWhole)
    (x : Vec Ideal S4096x4096 .fp8e4m3) (w : Vec Ideal S4096x2048 .fp8e5m2) (s : Vec Ideal S1 .f32) (t : Vec Ideal S1 .f32) :
    out0_A_4 c a0 h0 a1 h1 a2 h2 a3 h3 a4 h4 x w s t = k0_pay1 x w (s one) (t one) := by
  unfold out0_A_4 kernelRun0_A
  rw [View.read_writes_junk_eq_canon]
  refine (View.canon_unit_zero zero₂ _ _).trans ?_
  exact congr (congr (congr (congrArg k0_pay1 (load_all a0 h0 x zero₂ _)) (load_all a1 h1 w zero₂ _))
    ((congrFun (load_all a2 h2 s zero₁ _) _).trans (congrArg s (Cert.RingProof.idx_one _ _))))
    ((congrFun (load_all a3 h3 t zero₁ _) _).trans (congrArg t (Cert.RingProof.idx_one _ _)))

theorem block_x (c : Dev nD) (t : Fin cfg0.N) (i : S4096x4096.Idx) : (iblk m c 0 t : S4096x4096.Idx → Elt Ideal .fp8e4m3) i = m ((c : Thread nD τ).loc main_arg0) i :=
  congrArg (m ((c : Thread nD τ).loc main_arg0)) (Shape.idx_ext₂ (Window.rect_emb_val_of_index_zero win0_0 t (0 : Fin 2) rfl i)
    (Window.rect_emb_val_of_index_zero win0_0 t (1 : Fin 2) rfl i))

theorem block_w (c : Dev nD) (t : Fin cfg0.N) (i : S4096x2048.Idx) : (iblk m c 1 t : S4096x2048.Idx → Elt Ideal .fp8e5m2) i = m ((c : Thread nD τ).loc main_arg1) i :=
  congrArg (m ((c : Thread nD τ).loc main_arg1)) (Shape.idx_ext₂ (Window.rect_emb_val_of_index_zero win0_1 t (0 : Fin 2) rfl i)
    (Window.rect_emb_val_of_index_zero win0_1 t (1 : Fin 2) rfl i))

/-- **One element of the result.** -/
theorem result_apply (c : Dev nD) (r : Fin 4096) (l : Fin 2048) :
    ((dats m 0 c).arrAt 4 cfg0.N : S4096x2048.Idx → Ideal .f32) (ix2 r l)
      = act (Scalar.mulf (F := Ideal) (φ := .f32) (m ((c : Thread nD τ).loc main_arg2) one) (m ((c : Thread nD τ).loc main_arg3) one))
          (dot (fun k => m ((c : Thread nD τ).loc main_arg0) (ix2 r k)) (fun k => m ((c : Thread nD τ).loc main_arg1) (ix2 k l))) := by
  have h := congrFun ((blocks4 m c (0 : Fin 1) (by decide)).trans (flushed4_A m c (0 : Fin 1))) (ix2 r l)
  rw [left_eq] at h
  refine Eq.trans (congrArg ((dats m 0 c).arrAt 4 cfg0.N) (Shape.idx_ext₂ ?_ ?_)) (h.trans ?_)
  · exact (Window.rect_emb_val_of_index_zero win0_4 (0 : Fin 1) (0 : Fin 2) rfl (ix2 r l)).symm
  · exact (Window.rect_emb_val_of_index_zero win0_4 (0 : Fin 1) (1 : Fin 2) rfl (ix2 r l)).symm
  refine (Cert.RingProof.silu_payload _ _ _ _ r l).trans ?_
  exact congrArg₂ act (congrArg₂ (fun a b : Ideal .f32 => Scalar.mulf a b)
      (congrArg (m ((c : Thread nD τ).loc main_arg2)) (Cert.RingProof.idx_one _ _)) (congrArg (m ((c : Thread nD τ).loc main_arg3)) (Cert.RingProof.idx_one _ _)))
    (congrArg₂ dot (funext fun k => block_x m c _ _) (funext fun k => block_w m c _ _))

end Cert.SiluProof

end
-- ==== Proof.Value.lean ====
/-
The four devices' results are the four blocks of columns of the one-device program's result, over the extended reals; and
the clip of the exponential's argument, which the one-device program leaves out, changes no element whose argument lies
within it.
-/
module

public import proofs.«01_k».proof.Proof.Whole
public import proofs.«01_k».proof.Proof.Gen.ReferenceIdeal.Skeleton

@[expose] public section

noncomputable section

namespace Cert.RingProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Blocks of one result -/

variable (m : (ℓ : Loc nD τ sig) → Buf (Elt Ideal) ℓ)
variable (m' : (ℓ : Loc Cert.SiluIdeal.nD Cert.SiluIdeal.τ Cert.SiluIdeal.sig) → Buf (Elt Ideal) ℓ)

/-- The one device of the one-device program, its arguments and its result. -/
abbrev dev' : Dev Cert.SiluIdeal.nD := 0
abbrev whole' : Buf (Elt Ideal) ((dev' : Thread Cert.SiluIdeal.nD Cert.SiluIdeal.τ).loc Cert.SiluIdeal.main_v0) :=
  (Cert.SiluIdeal.Gen.dats m' 0 dev').arrAt 4 Cert.SiluIdeal.cfg0.N

/-- What the devices hold of the one-device program's arguments: blocks of rows of `x`, blocks of columns of `w`, both scales. -/
structure Holds : Prop where
  x : ∀ c : Dev nD, m ((c : Thread nD τ).loc main_arg0)
    = Layout.block ⟨2, ![1024, 4096]⟩ ⟨2, ![4096, 4096]⟩ 0 4 c (m' ((dev' : Thread Cert.SiluIdeal.nD Cert.SiluIdeal.τ).loc Cert.SiluIdeal.main_arg0))
  w : ∀ c : Dev nD, m ((c : Thread nD τ).loc main_arg1)
    = Layout.block ⟨2, ![4096, 512]⟩ ⟨2, ![4096, 2048]⟩ 1 4 c (m' ((dev' : Thread Cert.SiluIdeal.nD Cert.SiluIdeal.τ).loc Cert.SiluIdeal.main_arg1))
  sx : ∀ c : Dev nD, m ((c : Thread nD τ).loc main_arg2) = m' ((dev' : Thread Cert.SiluIdeal.nD Cert.SiluIdeal.τ).loc Cert.SiluIdeal.main_arg2)
  sw : ∀ c : Dev nD, m ((c : Thread nD τ).loc main_arg3) = m' ((dev' : Thread Cert.SiluIdeal.nD Cert.SiluIdeal.τ).loc Cert.SiluIdeal.main_arg3)

variable {m m'}

/-- Row `r` of the whole `x` is in its owner's block, -/
theorem Holds.row (h : Holds m m') (r k : Fin 4096) :
    m ((ownerOf r : Thread nD τ).loc main_arg0) (ix2 (rowIn r) k)
      = m' ((dev' : Thread Cert.SiluIdeal.nD Cert.SiluIdeal.τ).loc Cert.SiluIdeal.main_arg0) (ix2 r k) := by
  rw [h.x]
  refine congrArg (m' ((dev' : Thread Cert.SiluIdeal.nD Cert.SiluIdeal.τ).loc Cert.SiluIdeal.main_arg0)) (Shape.idx_ext₂ ?_ ?_)
  · show r.val / 1024 * 1024 + r.val % 1024 = r.val; omega
  · rfl

set_option backward.proofsInPublic true in
/-- Column `l` of device `c`'s block of columns, in the whole, -/
def colOf (c : Dev nD) (l : Fin 512) : Fin 2048 := ⟨c.val * 512 + l.val, by have := l.isLt; have : c.val < 4 := c.isLt; omega⟩

/-- is column `l` of the device's `w`. -/
theorem Holds.col (h : Holds m m') (c : Dev nD) (k : Fin 4096) (l : Fin 512) :
    m ((c : Thread nD τ).loc main_arg1) (ix2 k l)
      = m' ((dev' : Thread Cert.SiluIdeal.nD Cert.SiluIdeal.τ).loc Cert.SiluIdeal.main_arg1) (ix2 k (colOf c l)) := by
  rw [h.w]
  exact congrArg (m' ((dev' : Thread Cert.SiluIdeal.nD Cert.SiluIdeal.τ).loc Cert.SiluIdeal.main_arg1)) (Shape.idx_ext₂ rfl rfl)

/-- **Each device's result is its block of columns of the one-device program's.** -/
theorem Holds.result (h : Holds m m') (c : Dev nD) :
    finalA m c 4 = Layout.block ⟨2, ![4096, 512]⟩ ⟨2, ![4096, 2048]⟩ 1 4 c (whole' m') := by
  funext i
  obtain ⟨r, l, rfl⟩ : ∃ (r : Fin 4096) (l : Fin 512), i = ix2 r l := ⟨i 0, i 1, ValueIdx.eq_ix2 i⟩
  refine (finalA_out m c r l).trans ((outFin_apply m c r l).trans ?_)
  refine Eq.trans ?_ ((Cert.SiluProof.result_apply m' dev' r (colOf c l)).symm.trans
    (congrArg (whole' m') (Shape.idx_ext₂ rfl rfl)))
  rw [scl_eq, h.sx, h.sw]
  exact congrArg (act _) (congrArg₂ dot (funext fun k => h.row r k) (funext fun k => h.col c k l))

/-! ## The clip -/

/-- The clip's two bounds are -60 and 60. -/
theorem bound_low : Ideal.ofBits .f32 0xC2700000#32 = ((-60 : ℝ) : EReal) := by
  simp [Ideal.ofBits, Ideal.ieee, -EReal.coe_mul, -EReal.coe_neg]; norm_num
theorem bound_high : Ideal.ofBits .f32 0x42700000#32 = ((60 : ℝ) : EReal) := by
  simp [Ideal.ofBits, Ideal.ieee, -EReal.coe_mul, -EReal.coe_neg]; norm_num

/-- An element's pre-activation: the dot product at the scale. -/
def pre (s : EReal) (x w : Fin 4096 → EReal) : EReal := dot x w * s

/-- The activation with the exponential's argument clipped. -/
def clippedAct (s a : Ideal .f32) : Ideal .f32 :=
  let y := FloatOps.mulf a s
  FloatOps.divf y (FloatOps.addf (Scalar.ofBits .f32 0x3F800000#32) (FloatOps.exp (FloatOps.subf (Scalar.ofBits .f32 0x00000000#32)
    (FloatOps.minimumf (Scalar.ofBits .f32 0x42700000#32) (FloatOps.maximumf (Scalar.ofBits .f32 0xC2700000#32) y)))))

/-- Within the bounds the clip does nothing. -/
theorem clippedAct_eq (s a : Ideal .f32) (hlo : ((-60 : ℝ) : EReal) ≤ (a : EReal) * (s : EReal)) (hhi : (a : EReal) * (s : EReal) ≤ ((60 : ℝ) : EReal)) :
    clippedAct s a = act s a := by
  have hc : (FloatOps.minimumf (F := Ideal) (φ := .f32) (Scalar.ofBits .f32 0x42700000#32)
      (FloatOps.maximumf (Scalar.ofBits .f32 0xC2700000#32) (FloatOps.mulf a s))) = FloatOps.mulf a s := by
    show min (Ideal.ofBits .f32 0x42700000#32) (max (Ideal.ofBits .f32 0xC2700000#32) ((a : EReal) * (s : EReal))) = (a : EReal) * (s : EReal)
    rw [bound_low, bound_high, max_eq_right hlo, min_eq_right hhi]
  unfold clippedAct act
  dsimp only
  rw [hc]

/-- **Where an element's pre-activation lies in [-60, 60] the clipped reference stores what the unclipped one stores.** -/
theorem clipped_eq (x : Vec Ideal Cert.SiluIdeal.S4096x4096 .fp8e4m3) (w : Vec Ideal Cert.SiluIdeal.S4096x2048 .fp8e5m2) (a b : Elt Ideal .f32)
    (r : Fin 4096) (l : Fin 2048)
    (hlo : ((-60 : ℝ) : EReal) ≤ pre (Scalar.mulf (F := Ideal) (φ := .f32) a b) (fun k => x (ix2 r k)) (fun k => w (ix2 k l)))
    (hhi : pre (Scalar.mulf (F := Ideal) (φ := .f32) a b) (fun k => x (ix2 r k)) (fun k => w (ix2 k l)) ≤ ((60 : ℝ) : EReal)) :
    Cert.ReferenceIdeal.Gen.k0_pay1 x w a b (ix2 r l) = Cert.SiluIdeal.Gen.k0_pay1 x w a b (ix2 r l) := by
  refine Eq.trans ?_ ((clippedAct_eq _ _ hlo hhi).trans (silu_payload x w a b r l).symm)
  exact congrArg (clippedAct (Scalar.mulf (F := Ideal) (φ := .f32) a b)) (product_apply (M := 4096) (N := 2048) x w r l)

end Cert.RingProof

end
-- ==== Proof.lean ====
/-
The certificate: every claim of the test, assembled. The run of the ring kernel is proved once for any float values
(`run_main`) and read at the words and at the extended reals; the one-device programs' frames are the generated ones; the
value claim is `Holds.result` beside the two runs.
-/
module

public import proofs.«01_k».proof.Defs
public import proofs.«01_k».proof.Proof.Value
public import proofs.«01_k».proof.Proof.Gen.SiluIdeal.Value
public import proofs.«01_k».proof.Proof.Gen.ReferenceIdeal.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.ShloMosaic.TcCoe Idealize.SL.Sem Cert.RingProof

/-- The printed kernel's function table is the one of the kernel over the extended reals, which has the same text, -/
theorem body_eq : Cert.Kernel.defs₀ (F := Bits) = Cert.KernelIdeal.defs₀ (F := Bits) := by
  unfold Cert.Kernel.defs₀ Cert.KernelIdeal.defs₀
  refine congrArg _ ?_
  funext l a
  obtain ⟨_ | n, h⟩ := l
  · rfl
  · exact absurd h (Nat.not_lt.2 (Nat.le_add_left _ _))

theorem defs_eq : Cert.Kernel.defs (F := Bits) = Cert.KernelIdeal.defs (F := Bits) := congrArg (Pipeline.defs Cert.KernelIdeal.pcfgs) body_eq

/-- so its run is the same run, read at the words: to its end, its inputs unchanged and its semaphores at zero. -/
theorem frame_kernel : Cert.quiescent_Kernel := fun m ρ _ =>
  Eq.mpr (congrArg (fun d => θ_run d (onTc (τ := Cert.KernelIdeal.τ) (Cert.KernelIdeal.main (F := Bits))) ⟨m, fun _ => 0, ρ⟩ _) defs_eq)
    (run_frame (F := Bits) m ρ)

theorem frame_ideal : Cert.quiescent_KernelIdeal := fun m ρ _ => run_frame (F := Ideal) m ρ

/-- Each device's result is its block of the one-device program's. -/
theorem blocks : Cert.algebraic_KernelIdeal_SiluIdeal := fun m ρ m' ρ' _ hin =>
  have h : Holds m m' := ⟨fun c => (hin c).1, fun c => (hin c).2.1, fun c => (hin c).2.2.1, fun c => (hin c).2.2.2⟩
  ⟨whole' m',
    (θ_run Cert.KernelIdeal.defs _ _).mono (fun _ hr c => ⟨(hr.1 c 4).trans (h.result c), (hr.1 c 0).trans (finalA_in m c 0 (by decide)),
      (hr.1 c 1).trans (finalA_in m c 1 (by decide)), (hr.1 c 2).trans (finalA_in m c 2 (by decide)), (hr.1 c 3).trans (finalA_in m c 3 (by decide))⟩)
      (run_main (F := Ideal) m ρ),
    (θ_run Cert.SiluIdeal.defs _ _).mono (fun _ hr => hr dev') (Cert.SiluIdeal.Value.run_blocks m' ρ')⟩

theorem claim : Cert.Claim :=
  ⟨Cert.Kernel.Gen.facts, Cert.KernelIdeal.Gen.facts, Cert.SiluIdeal.Gen.facts, Cert.ReferenceIdeal.Gen.facts,
    frame_kernel, frame_ideal, fun m ρ _ => Cert.SiluIdeal.Gen.frame m ρ, fun m ρ _ => Cert.ReferenceIdeal.Gen.frame m ρ,
    trivial, blocks⟩

end Cert.Proof

end
